-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_domain [hPre_in_domain : Cert.Pre_in_domain.Facts] (m : (ℓ : Loc Cert.KernelIdeal.nD Cert.KernelIdeal.τ Cert.KernelIdeal.sig) → Buf (Elt Ideal) ℓ) : Prop :=
  ∀ c : Dev Cert.KernelIdeal.nD,
    (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_domain [hPre_in_domain : Cert.Pre_in_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_in_domain [hKernelIdeal : Cert.KernelIdeal.Facts] [hPre_in_domain : Cert.Pre_in_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_domain m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_in_domain [hReferenceIdeal : Cert.ReferenceIdeal.Facts] [hPre_in_domain : Cert.Pre_in_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_domain m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal_pre_in_domain [hKernelIdeal : Cert.KernelIdeal.Facts] [hReferenceIdeal : Cert.ReferenceIdeal.Facts] [hPre_in_domain : Cert.Pre_in_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_domain m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_in_domain : Cert.Pre_in_domain.Facts),
    quiescent_Kernel (hKernel := hKernel)
    ∧ quiescent_KernelIdeal (hKernelIdeal := hKernelIdeal)
    ∧ quiescent_KernelIdeal_pre_in_domain (hKernelIdeal := hKernelIdeal) (hPre_in_domain := hPre_in_domain)
    ∧ quiescent_ReferenceIdeal (hReferenceIdeal := hReferenceIdeal)
    ∧ quiescent_ReferenceIdeal_pre_in_domain (hReferenceIdeal := hReferenceIdeal) (hPre_in_domain := hPre_in_domain)
    ∧ preserves_Kernel_KernelIdeal
    ∧ algebraic_KernelIdeal_ReferenceIdeal_pre_in_domain (hKernelIdeal := hKernelIdeal) (hReferenceIdeal := hReferenceIdeal) (hPre_in_domain := hPre_in_domain)
-- ==== Pre_in_domain.lean ====
abbrev S10000x128 : Shape := ⟨2, ![10000, 128]⟩
abbrev S2x320000 : Shape := ⟨2, ![2, 320000]⟩
abbrev S320000x16 : Shape := ⟨2, ![320000, 16]⟩
abbrev S10000 : Shape := ⟨1, ![10000]⟩
abbrev S_ : Shape := ⟨0, ![]⟩
abbrev S16x128 : Shape := ⟨2, ![16, 128]⟩
abbrev S128 : Shape := ⟨1, ![128]⟩
abbrev S128x5 : Shape := ⟨2, ![128, 5]⟩
abbrev S5 : Shape := ⟨1, ![5]⟩
abbrev S16x5 : Shape := ⟨2, ![16, 5]⟩
abbrev S5x1 : Shape := ⟨2, ![5, 1]⟩
abbrev S1 : Shape := ⟨1, ![1]⟩

class Facts : Prop where
  bcast_S_S10000 : S_.BroadcastsInDim S10000 (![] : Fin 0 → Fin S10000.rank)
  reducesTo_S10000_S_d0 : S10000.ReducesTo [0] S_
  h_S_ : 0 < S_.numel
  reducesTo_S_S_d : S_.ReducesTo [] S_
  bcast_S_S128x5 : S_.BroadcastsInDim S128x5 (![] : Fin 0 → Fin S128x5.rank)
  reducesTo_S128x5_S_d0_1 : S128x5.ReducesTo [0, 1] S_
  bcast_S_S5 : S_.BroadcastsInDim S5 (![] : Fin 0 → Fin S5.rank)
  reducesTo_S5_S_d0 : S5.ReducesTo [0] S_
  bcast_S_S5x1 : S_.BroadcastsInDim S5x1 (![] : Fin 0 → Fin S5x1.rank)
  reducesTo_S5x1_S_d0_1 : S5x1.ReducesTo [0, 1] S_

variable [Facts]

def fn_part2 {F : FTy → Type} [FloatOps F] (main_v6 : IVec S_ 1) (main_v14 : IVec S_ 1) (main_v23 : IVec S_ 1) (main_v31 : IVec S_ 1) : IVec S_ 1 :=
  let main_v32 : IVec S_ 1 := andi main_v6 main_v14
  let main_v33 : IVec S_ 1 := andi main_v32 main_v23
  let main_v34 : IVec S_ 1 := andi main_v33 main_v31
  main_v34

def fn_part1 {F : FTy → Type} [FloatOps F] (main_arg10 : FVec F S5 .f32) (main_arg12 : FVec F S_ .f32) (main_arg15 : FVec F S5x1 .f32) (main_v6 : IVec S_ 1) (main_v14 : IVec S_ 1) (main_v15 : FVec F S5 .f32) : IVec S_ 1 :=
  let main_cst_6 : FVec F S_ .f32 := constant S_ .f32 0x7F800000#32
  let main_v16 : FVec F S5 .f32 := broadcastInDim S5 ![] bcast_S_S5 main_cst_6
  let main_v17 : IVec S5 1 := cmpf .olt main_v15 main_v16
  let main_c_7 : IVec S_ 1 := constantI S_ 1 1#1
  let main_v18 : IVec S_ 1 := (fun x v => Host.reduce IntOp.andi x v reducesTo_S5_S_d0 h_S_) main_v17 main_c_7
  let main_v19 : FVec F S5 .f32 := Host.absf main_arg10
  let main_cst_8 : FVec F S_ .f32 := constant S_ .f32 0x7F800000#32
  let main_v20 : FVec F S5 .f32 := broadcastInDim S5 ![] bcast_S_S5 main_cst_8
  let main_v21 : IVec S5 1 := cmpf .olt main_v19 main_v20
  let main_c_9 : IVec S_ 1 := constantI S_ 1 1#1
  let main_v22 : IVec S_ 1 := (fun x v => Host.reduce IntOp.andi x v reducesTo_S5_S_d0 h_S_) main_v21 main_c_9
  let main_v23 : IVec S_ 1 := andi main_v18 main_v22
  let main_v24 : FVec F S_ .f32 := Host.absf main_arg12
  let main_cst_10 : FVec F S_ .f32 := constant S_ .f32 0x7F800000#32
  let main_v25 : IVec S_ 1 := cmpf .olt main_v24 main_cst_10
  let main_c_11 : IVec S_ 1 := constantI S_ 1 1#1
  let main_v26 : IVec S_ 1 := (fun x v => Host.reduce IntOp.andi x v reducesTo_S_S_d h_S_) main_v25 main_c_11
  let main_v27 : FVec F S5x1 .f32 := Host.absf main_arg15
  let main_cst_12 : FVec F S_ .f32 := constant S_ .f32 0x7F800000#32
  let main_v28 : FVec F S5x1 .f32 := broadcastInDim S5x1 ![] bcast_S_S5x1 main_cst_12
  let main_v29 : IVec S5x1 1 := cmpf .olt main_v27 main_v28
  let main_c_13 : IVec S_ 1 := constantI S_ 1 1#1
  let main_v30 : IVec S_ 1 := (fun x v => Host.reduce IntOp.andi x v reducesTo_S5x1_S_d0_1 h_S_) main_v29 main_c_13
  let main_v31 : IVec S_ 1 := andi main_v26 main_v30
  fn_part2 (F := F) main_v6 main_v14 main_v23 main_v31

def fn {F : FTy → Type} [FloatOps F] (main_arg0 : FVec F S10000x128 .f32) (main_arg1 : IVec S2x320000 32) (main_arg2 : FVec F S320000x16 .f32) (main_arg3 : IVec S10000 32) (main_arg4 : FVec F S_ .f32) (main_arg5 : FVec F S16x128 .f32) (main_arg6 : FVec F S128 .f32) (main_arg7 : FVec F S128x5 .f32) (main_arg8 : FVec F S5 .f32) (main_arg9 : FVec F S5 .f32) (main_arg10 : FVec F S5 .f32) (main_arg11 : FVec F S5 .f32) (main_arg12 : FVec F S_ .f32) (main_arg13 : FVec F S16x5 .f32) (main_arg14 : FVec F S5 .f32) (main_arg15 : FVec F S5x1 .f32) (main_arg16 : FVec F S1 .f32) : IVec S_ 1 :=
  let main_c : IVec S_ 32 := constantI S_ 32 0#32
  let main_v0 : IVec S10000 32 := broadcastInDim S10000 ![] bcast_S_S10000 main_c
  let main_v1 : IVec S10000 1 := cmpi .sge main_arg3 main_v0
  let main_c_0 : IVec S_ 1 := constantI S_ 1 1#1
  let main_v2 : IVec S_ 1 := (fun x v => Host.reduce IntOp.andi x v reducesTo_S10000_S_d0 h_S_) main_v1 main_c_0
  let main_c_1 : IVec S_ 32 := constantI S_ 32 64#32
  let main_v3 : IVec S10000 32 := broadcastInDim S10000 ![] bcast_S_S10000 main_c_1
  let main_v4 : IVec S10000 1 := cmpi .slt main_arg3 main_v3
  let main_c_2 : IVec S_ 1 := constantI S_ 1 1#1
  let main_v5 : IVec S_ 1 := (fun x v => Host.reduce IntOp.andi x v reducesTo_S10000_S_d0 h_S_) main_v4 main_c_2
  let main_v6 : IVec S_ 1 := andi main_v2 main_v5
  let main_v7 : FVec F S_ .f32 := Host.absf main_arg4
  let main_cst : FVec F S_ .f32 := constant S_ .f32 0x7F800000#32
  let main_v8 : IVec S_ 1 := cmpf .olt main_v7 main_cst
  let main_c_3 : IVec S_ 1 := constantI S_ 1 1#1
  let main_v9 : IVec S_ 1 := (fun x v => Host.reduce IntOp.andi x v reducesTo_S_S_d h_S_) main_v8 main_c_3
  let main_v10 : FVec F S128x5 .f32 := Host.absf main_arg7
  let main_cst_4 : FVec F S_ .f32 := constant S_ .f32 0x7F800000#32
  let main_v11 : FVec F S128x5 .f32 := broadcastInDim S128x5 ![] bcast_S_S128x5 main_cst_4
  let main_v12 : IVec S128x5 1 := cmpf .olt main_v10 main_v11
  let main_c_5 : IVec S_ 1 := constantI S_ 1 1#1
  let main_v13 : IVec S_ 1 := (fun x v => Host.reduce IntOp.andi x v reducesTo_S128x5_S_d0_1 h_S_) main_v12 main_c_5
  let main_v14 : IVec S_ 1 := andi main_v9 main_v13
  let main_v15 : FVec F S5 .f32 := Host.absf main_arg9
  fn_part1 (F := F) main_arg10 main_arg12 main_arg15 main_v6 main_v14 main_v15
-- ==== Kernel.lean ====
abbrev S10000x128 : Shape := ⟨2, ![10000, 128]⟩
abbrev S2x320000 : Shape := ⟨2, ![2, 320000]⟩
abbrev S320000x16 : Shape := ⟨2, ![320000, 16]⟩
abbrev S10000 : Shape := ⟨1, ![10000]⟩
abbrev S_ : Shape := ⟨0, ![]⟩
abbrev S16x128 : Shape := ⟨2, ![16, 128]⟩
abbrev S128 : Shape := ⟨1, ![128]⟩
abbrev S128x5 : Shape := ⟨2, ![128, 5]⟩
abbrev S5 : Shape := ⟨1, ![5]⟩
abbrev S16x5 : Shape := ⟨2, ![16, 5]⟩
abbrev S5x1 : Shape := ⟨2, ![5, 1]⟩
abbrev S1 : Shape := ⟨1, ![1]⟩
abbrev S1x320000 : Shape := ⟨2, ![1, 320000]⟩
abbrev S320000 : Shape := ⟨1, ![320000]⟩
abbrev S320000x1 : Shape := ⟨2, ![320000, 1]⟩
abbrev S320000x128 : Shape := ⟨2, ![320000, 128]⟩
abbrev S1x128 : Shape := ⟨2, ![1, 128]⟩
abbrev S320000x5 : Shape := ⟨2, ![320000, 5]⟩
abbrev S10000x5 : Shape := ⟨2, ![10000, 5]⟩
abbrev S1x5 : Shape := ⟨2, ![1, 5]⟩
abbrev S64 : Shape := ⟨1, ![64]⟩
abbrev S10000x1 : Shape := ⟨2, ![10000, 1]⟩
abbrev S64x1 : Shape := ⟨2, ![64, 1]⟩
abbrev S64x5 : Shape := ⟨2, ![64, 5]⟩
abbrev S1x1 : Shape := ⟨2, ![1, 1]⟩

abbrev nBuf : Space → Nat
  | .hbm => 143
  | .vmem => 2
  | .smem => 0
  | _ => 0

abbrev hbmTy0_0 (i : Nat) : BufTy := match i % 128 with
  | 0 => ⟨S10000x128, .f32⟩
  | 1 => ⟨S2x320000, .i32⟩
  | 2 => ⟨S320000x16, .f32⟩
  | 3 => ⟨S10000, .i32⟩
  | 4 => ⟨S_, .f32⟩
  | 5 => ⟨S16x128, .f32⟩
  | 6 => ⟨S128, .f32⟩
  | 7 => ⟨S128x5, .f32⟩
  | 8 => ⟨S5, .f32⟩
  | 9 => ⟨S5, .f32⟩
  | 10 => ⟨S5, .f32⟩
  | 11 => ⟨S5, .f32⟩
  | 12 => ⟨S_, .f32⟩
  | 13 => ⟨S16x5, .f32⟩
  | 14 => ⟨S5, .f32⟩
  | 15 => ⟨S5x1, .f32⟩
  | 16 => ⟨S1, .f32⟩
  | 17 => ⟨S1x320000, .i32⟩
  | 18 => ⟨S320000, .i32⟩
  | 19 => ⟨S1x320000, .i32⟩
  | 20 => ⟨S320000, .i32⟩
  | 21 => ⟨S_, .i32⟩
  | 22 => ⟨S320000, .i32⟩
  | 23 => ⟨S320000, .i1⟩
  | 24 => ⟨S_, .i32⟩
  | 25 => ⟨S320000, .i32⟩
  | 26 => ⟨S320000, .i32⟩
  | 27 => ⟨S320000, .i32⟩
  | 28 => ⟨S320000x1, .i32⟩
  | 29 => ⟨S320000x128, .f32⟩
  | 30 => ⟨S320000x128, .f32⟩
  | 31 => ⟨S320000x128, .f32⟩
  | 32 => ⟨S1x128, .f32⟩
  | 33 => ⟨S320000x128, .f32⟩
  | 34 => ⟨S320000x128, .f32⟩
  | 35 => ⟨S_, .f32⟩
  | 36 => ⟨S320000x128, .f32⟩
  | 37 => ⟨S320000x128, .f32⟩
  | 38 => ⟨S320000x5, .f32⟩
  | 39 => ⟨S_, .f32⟩
  | 40 => ⟨S10000x5, .f32⟩
  | 41 => ⟨S320000x1, .i32⟩
  | 42 => ⟨S10000x5, .f32⟩
  | 43 => ⟨S_, .f32⟩
  | 44 => ⟨S_, .f32⟩
  | 45 => ⟨S10000x5, .f32⟩
  | 46 => ⟨S10000x5, .f32⟩
  | 47 => ⟨S10000x5, .f32⟩
  | 48 => ⟨S10000x5, .f32⟩
  | 49 => ⟨S1x5, .f32⟩
  | 50 => ⟨S10000x5, .f32⟩
  | 51 => ⟨S10000x5, .f32⟩
  | 52 => ⟨S_, .f32⟩
  | 53 => ⟨S10000, .f32⟩
  | 54 => ⟨S_, .f32⟩
  | 55 => ⟨S64, .f32⟩
  | 56 => ⟨S10000x1, .i32⟩
  | 57 => ⟨S64, .f32⟩
  | 58 => ⟨S_, .f32⟩
  | 59 => ⟨S64, .f32⟩
  | 60 => ⟨S64, .f32⟩
  | 61 => ⟨S64x1, .f32⟩
  | 62 => ⟨S_, .f32⟩
  | 63 => ⟨S64x5, .f32⟩
  | 64 => ⟨S10000x1, .i32⟩
  | 65 => ⟨S64x5, .f32⟩
  | 66 => ⟨S64x5, .f32⟩
  | 67 => ⟨S64x5, .f32⟩
  | 68 => ⟨S_, .i32⟩
  | 69 => ⟨S10000, .i32⟩
  | 70 => ⟨S10000, .i1⟩
  | 71 => ⟨S_, .i32⟩
  | 72 => ⟨S10000, .i32⟩
  | 73 => ⟨S10000, .i32⟩
  | 74 => ⟨S10000, .i32⟩
  | 75 => ⟨S10000x1, .i32⟩
  | 76 => ⟨S10000x5, .f32⟩
  | 77 => ⟨S1x5, .f32⟩
  | 78 => ⟨S10000x5, .f32⟩
  | 79 => ⟨S10000x5, .f32⟩
  | 80 => ⟨S10000x5, .f32⟩
  | 81 => ⟨S10000x5, .f32⟩
  | 82 => ⟨S_, .f32⟩
  | 83 => ⟨S64x5, .f32⟩
  | 84 => ⟨S10000x1, .i32⟩
  | 85 => ⟨S64x5, .f32⟩
  | 86 => ⟨S64x5, .f32⟩
  | 87 => ⟨S64x5, .f32⟩
  | 88 => ⟨S1x5, .f32⟩
  | 89 => ⟨S10000x5, .f32⟩
  | 90 => ⟨S10000x5, .f32⟩
  | 91 => ⟨S_, .i32⟩
  | 92 => ⟨S10000, .i32⟩
  | 93 => ⟨S10000, .i1⟩
  | 94 => ⟨S_, .i32⟩
  | 95 => ⟨S10000, .i32⟩
  | 96 => ⟨S10000, .i32⟩
  | 97 => ⟨S10000, .i32⟩
  | 98 => ⟨S10000x1, .i32⟩
  | 99 => ⟨S10000x5, .f32⟩
  | 100 => ⟨S_, .f32⟩
  | 101 => ⟨S10000x5, .f32⟩
  | 102 => ⟨S10000x5, .f32⟩
  | 103 => ⟨S10000x5, .f32⟩
  | 104 => ⟨S10000x5, .f32⟩
  | 105 => ⟨S1x5, .f32⟩
  | 106 => ⟨S10000x5, .f32⟩
  | 107 => ⟨S10000x5, .f32⟩
  | 108 => ⟨S_, .f32⟩
  | 109 => ⟨S10000x5, .f32⟩
  | 110 => ⟨S10000x5, .f32⟩
  | 111 => ⟨S_, .i32⟩
  | 112 => ⟨S320000, .i32⟩
  | 113 => ⟨S320000, .i1⟩
  | 114 => ⟨S_, .i32⟩
  | 115 => ⟨S320000, .i32⟩
  | 116 => ⟨S320000, .i32⟩
  | 117 => ⟨S320000, .i32⟩
  | 118 => ⟨S320000x1, .i32⟩
  | 119 => ⟨S320000x5, .f32⟩
  | 120 => ⟨S320000x5, .f32⟩
  | 121 => ⟨S320000x5, .f32⟩
  | 122 => ⟨S1x5, .f32⟩
  | 123 => ⟨S320000x5, .f32⟩
  | 124 => ⟨S320000x5, .f32⟩
  | 125 => ⟨S_, .f32⟩
  | 126 => ⟨S320000x5, .f32⟩
  | 127 => ⟨S320000x5, .f32⟩
  | _ => ⟨S10000x128, .f32⟩

abbrev hbmTy0_1 (i : Nat) : BufTy := match i % 128 with
  | 0 => ⟨S320000x1, .f32⟩
  | 1 => ⟨S_, .f32⟩
  | 2 => ⟨S10000x1, .f32⟩
  | 3 => ⟨S320000x1, .i32⟩
  | 4 => ⟨S10000x1, .f32⟩
  | 5 => ⟨S_, .f32⟩
  | 6 => ⟨S_, .f32⟩
  | 7 => ⟨S10000x1, .f32⟩
  | 8 => ⟨S10000x1, .f32⟩
  | 9 => ⟨S10000x1, .f32⟩
  | 10 => ⟨S10000x1, .f32⟩
  | 11 => ⟨S1x1, .f32⟩
  | 12 => ⟨S10000x1, .f32⟩
  | 13 => ⟨S10000x1, .f32⟩
  | 14 => ⟨S10000x1, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | .local _ .vmem, ⟨0, _⟩ => ⟨S10000x1, .f32⟩
  | .local _ .vmem, ⟨1, _⟩ => ⟨S10000x1, .f32⟩
  | _, _ => ⟨S10000x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_call0_cst : Ref sig .tc := ⟨.hbm, 35, rfl⟩
abbrev main_call0_v0 : Ref sig .tc := ⟨.hbm, 36, rfl⟩
abbrev main_v16 : Ref sig .tc := ⟨.hbm, 37, rfl⟩
abbrev main_v17 : Ref sig .tc := ⟨.hbm, 38, rfl⟩
abbrev main_cst : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_1 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_2 : Ref sig .tc := ⟨.hbm, 52, rfl⟩
abbrev main_v29 : Ref sig .tc := ⟨.hbm, 53, rfl⟩
abbrev main_cst_3 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_4 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_5 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_c_6 : Ref sig .tc := ⟨.hbm, 68, rfl⟩
abbrev main_v41 : Ref sig .tc := ⟨.hbm, 69, rfl⟩
abbrev main_v42 : Ref sig .tc := ⟨.hbm, 70, rfl⟩
abbrev main_c_7 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_8 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_c_9 : Ref sig .tc := ⟨.hbm, 91, rfl⟩
abbrev main_v61 : Ref sig .tc := ⟨.hbm, 92, rfl⟩
abbrev main_v62 : Ref sig .tc := ⟨.hbm, 93, rfl⟩
abbrev main_c_10 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_11 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_call1_cst : Ref sig .tc := ⟨.hbm, 108, rfl⟩
abbrev main_call1_v0 : Ref sig .tc := ⟨.hbm, 109, rfl⟩
abbrev main_v75 : Ref sig .tc := ⟨.hbm, 110, rfl⟩
abbrev main_c_12 : Ref sig .tc := ⟨.hbm, 111, rfl⟩
abbrev main_v76 : Ref sig .tc := ⟨.hbm, 112, rfl⟩
abbrev main_v77 : Ref sig .tc := ⟨.hbm, 113, rfl⟩
abbrev main_c_13 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_call2_cst : Ref sig .tc := ⟨.hbm, 125, rfl⟩
abbrev main_call2_v0 : Ref sig .tc := ⟨.hbm, 126, rfl⟩
abbrev main_v88 : Ref sig .tc := ⟨.hbm, 127, rfl⟩
abbrev main_v89 : Ref sig .tc := ⟨.hbm, 128, rfl⟩
abbrev main_cst_14 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_cst_15 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S10000x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S10000x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S10000x128 : Shape := ⟨2, ![10000, 128]⟩
abbrev S2x320000 : Shape := ⟨2, ![2, 320000]⟩
abbrev S320000x16 : Shape := ⟨2, ![320000, 16]⟩
abbrev S10000 : Shape := ⟨1, ![10000]⟩
abbrev S_ : Shape := ⟨0, ![]⟩
abbrev S16x128 : Shape := ⟨2, ![16, 128]⟩
abbrev S128 : Shape := ⟨1, ![128]⟩
abbrev S128x5 : Shape := ⟨2, ![128, 5]⟩
abbrev S5 : Shape := ⟨1, ![5]⟩
abbrev S16x5 : Shape := ⟨2, ![16, 5]⟩
abbrev S5x1 : Shape := ⟨2, ![5, 1]⟩
abbrev S1 : Shape := ⟨1, ![1]⟩
abbrev S1x320000 : Shape := ⟨2, ![1, 320000]⟩
abbrev S320000 : Shape := ⟨1, ![320000]⟩
abbrev S320000x1 : Shape := ⟨2, ![320000, 1]⟩
abbrev S320000x128 : Shape := ⟨2, ![320000, 128]⟩
abbrev S1x128 : Shape := ⟨2, ![1, 128]⟩
abbrev S10000x5 : Shape := ⟨2, ![10000, 5]⟩
abbrev S1x5 : Shape := ⟨2, ![1, 5]⟩
abbrev S64 : Shape := ⟨1, ![64]⟩
abbrev S10000x1 : Shape := ⟨2, ![10000, 1]⟩
abbrev S64x1 : Shape := ⟨2, ![64, 1]⟩
abbrev S64x5 : Shape := ⟨2, ![64, 5]⟩
abbrev S320000x5 : Shape := ⟨2, ![320000, 5]⟩
abbrev S1x1 : Shape := ⟨2, ![1, 1]⟩

abbrev nBuf : Space → Nat
  | .hbm => 152
  | .vmem => 0
  | .smem => 0
  | _ => 0

abbrev hbmTy0_0 (i : Nat) : BufTy := match i % 128 with
  | 0 => ⟨S10000x128, .f32⟩
  | 1 => ⟨S2x320000, .i32⟩
  | 2 => ⟨S320000x16, .f32⟩
  | 3 => ⟨S10000, .i32⟩
  | 4 => ⟨S_, .f32⟩
  | 5 => ⟨S16x128, .f32⟩
  | 6 => ⟨S128, .f32⟩
  | 7 => ⟨S128x5, .f32⟩
  | 8 => ⟨S5, .f32⟩
  | 9 => ⟨S5, .f32⟩
  | 10 => ⟨S5, .f32⟩
  | 11 => ⟨S5, .f32⟩
  | 12 => ⟨S_, .f32⟩
  | 13 => ⟨S16x5, .f32⟩
  | 14 => ⟨S5, .f32⟩
  | 15 => ⟨S5x1, .f32⟩
  | 16 => ⟨S1, .f32⟩
  | 17 => ⟨S1x320000, .i32⟩
  | 18 => ⟨S320000, .i32⟩
  | 19 => ⟨S1x320000, .i32⟩
  | 20 => ⟨S320000, .i32⟩
  | 21 => ⟨S_, .i32⟩
  | 22 => ⟨S320000, .i32⟩
  | 23 => ⟨S320000, .i1⟩
  | 24 => ⟨S_, .i32⟩
  | 25 => ⟨S320000, .i32⟩
  | 26 => ⟨S320000, .i32⟩
  | 27 => ⟨S320000, .i32⟩
  | 28 => ⟨S320000x1, .i32⟩
  | 29 => ⟨S320000x128, .f32⟩
  | 30 => ⟨S320000x128, .f32⟩
  | 31 => ⟨S320000x128, .f32⟩
  | 32 => ⟨S1x128, .f32⟩
  | 33 => ⟨S320000x128, .f32⟩
  | 34 => ⟨S320000x128, .f32⟩
  | 35 => ⟨S_, .f32⟩
  | 36 => ⟨S320000x128, .f32⟩
  | 37 => ⟨S320000x128, .f32⟩
  | 38 => ⟨S_, .f32⟩
  | 39 => ⟨S10000x128, .f32⟩
  | 40 => ⟨S320000x1, .i32⟩
  | 41 => ⟨S10000x128, .f32⟩
  | 42 => ⟨S_, .f32⟩
  | 43 => ⟨S_, .f32⟩
  | 44 => ⟨S10000x128, .f32⟩
  | 45 => ⟨S10000x128, .f32⟩
  | 46 => ⟨S10000x128, .f32⟩
  | 47 => ⟨S10000x5, .f32⟩
  | 48 => ⟨S1x5, .f32⟩
  | 49 => ⟨S10000x5, .f32⟩
  | 50 => ⟨S10000x5, .f32⟩
  | 51 => ⟨S_, .f32⟩
  | 52 => ⟨S10000, .f32⟩
  | 53 => ⟨S_, .f32⟩
  | 54 => ⟨S64, .f32⟩
  | 55 => ⟨S10000x1, .i32⟩
  | 56 => ⟨S64, .f32⟩
  | 57 => ⟨S_, .f32⟩
  | 58 => ⟨S64, .f32⟩
  | 59 => ⟨S64, .f32⟩
  | 60 => ⟨S64x1, .f32⟩
  | 61 => ⟨S_, .f32⟩
  | 62 => ⟨S64x5, .f32⟩
  | 63 => ⟨S10000x1, .i32⟩
  | 64 => ⟨S64x5, .f32⟩
  | 65 => ⟨S64x5, .f32⟩
  | 66 => ⟨S64x5, .f32⟩
  | 67 => ⟨S_, .i32⟩
  | 68 => ⟨S10000, .i32⟩
  | 69 => ⟨S10000, .i1⟩
  | 70 => ⟨S_, .i32⟩
  | 71 => ⟨S10000, .i32⟩
  | 72 => ⟨S10000, .i32⟩
  | 73 => ⟨S10000, .i32⟩
  | 74 => ⟨S10000x1, .i32⟩
  | 75 => ⟨S10000x5, .f32⟩
  | 76 => ⟨S1x5, .f32⟩
  | 77 => ⟨S10000x5, .f32⟩
  | 78 => ⟨S10000x5, .f32⟩
  | 79 => ⟨S10000x5, .f32⟩
  | 80 => ⟨S10000x5, .f32⟩
  | 81 => ⟨S_, .f32⟩
  | 82 => ⟨S64x5, .f32⟩
  | 83 => ⟨S10000x1, .i32⟩
  | 84 => ⟨S64x5, .f32⟩
  | 85 => ⟨S64x5, .f32⟩
  | 86 => ⟨S64x5, .f32⟩
  | 87 => ⟨S_, .i32⟩
  | 88 => ⟨S10000, .i32⟩
  | 89 => ⟨S10000, .i1⟩
  | 90 => ⟨S_, .i32⟩
  | 91 => ⟨S10000, .i32⟩
  | 92 => ⟨S10000, .i32⟩
  | 93 => ⟨S10000, .i32⟩
  | 94 => ⟨S10000x1, .i32⟩
  | 95 => ⟨S10000x5, .f32⟩
  | 96 => ⟨S_, .f32⟩
  | 97 => ⟨S10000x5, .f32⟩
  | 98 => ⟨S10000x5, .f32⟩
  | 99 => ⟨S10000x5, .f32⟩
  | 100 => ⟨S1x5, .f32⟩
  | 101 => ⟨S10000x5, .f32⟩
  | 102 => ⟨S10000x5, .f32⟩
  | 103 => ⟨S10000x5, .f32⟩
  | 104 => ⟨S1x5, .f32⟩
  | 105 => ⟨S10000x5, .f32⟩
  | 106 => ⟨S10000x5, .f32⟩
  | 107 => ⟨S_, .f32⟩
  | 108 => ⟨S10000x5, .f32⟩
  | 109 => ⟨S10000x5, .f32⟩
  | 110 => ⟨S1x320000, .i32⟩
  | 111 => ⟨S320000, .i32⟩
  | 112 => ⟨S1x320000, .i32⟩
  | 113 => ⟨S320000, .i32⟩
  | 114 => ⟨S_, .i32⟩
  | 115 => ⟨S320000, .i32⟩
  | 116 => ⟨S320000, .i1⟩
  | 117 => ⟨S_, .i32⟩
  | 118 => ⟨S320000, .i32⟩
  | 119 => ⟨S320000, .i32⟩
  | 120 => ⟨S320000, .i32⟩
  | 121 => ⟨S320000x1, .i32⟩
  | 122 => ⟨S320000x5, .f32⟩
  | 123 => ⟨S320000x5, .f32⟩
  | 124 => ⟨S320000x5, .f32⟩
  | 125 => ⟨S1x5, .f32⟩
  | 126 => ⟨S320000x5, .f32⟩
  | 127 => ⟨S320000x5, .f32⟩
  | _ => ⟨S10000x128, .f32⟩

abbrev hbmTy0_1 (i : Nat) : BufTy := match i % 128 with
  | 0 => ⟨S_, .f32⟩
  | 1 => ⟨S320000x5, .f32⟩
  | 2 => ⟨S320000x5, .f32⟩
  | 3 => ⟨S_, .f32⟩
  | 4 => ⟨S10000x5, .f32⟩
  | 5 => ⟨S320000x1, .i32⟩
  | 6 => ⟨S10000x5, .f32⟩
  | 7 => ⟨S_, .f32⟩
  | 8 => ⟨S_, .f32⟩
  | 9 => ⟨S10000x5, .f32⟩
  | 10 => ⟨S10000x5, .f32⟩
  | 11 => ⟨S10000x5, .f32⟩
  | 12 => ⟨S10000x1, .f32⟩
  | 13 => ⟨S1x1, .f32⟩
  | 14 => ⟨S10000x1, .f32⟩
  | 15 => ⟨S10000x1, .f32⟩
  | 16 => ⟨S10000x1, .f32⟩
  | 17 => ⟨S10000x1, .f32⟩
  | 18 => ⟨S_, .f32⟩
  | 19 => ⟨S10000x1, .f32⟩
  | 20 => ⟨S10000x1, .f32⟩
  | 21 => ⟨S_, .f32⟩
  | 22 => ⟨S10000x1, .f32⟩
  | 23 => ⟨S10000x1, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_call0_cst : Ref sig .tc := ⟨.hbm, 35, rfl⟩
abbrev main_call0_v0 : Ref sig .tc := ⟨.hbm, 36, rfl⟩
abbrev main_v16 : Ref sig .tc := ⟨.hbm, 37, rfl⟩
abbrev main_cst : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_1 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_2 : Ref sig .tc := ⟨.hbm, 51, rfl⟩
abbrev main_v28 : Ref sig .tc := ⟨.hbm, 52, rfl⟩
abbrev main_cst_3 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_4 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_5 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_c_6 : Ref sig .tc := ⟨.hbm, 67, rfl⟩
abbrev main_v40 : Ref sig .tc := ⟨.hbm, 68, rfl⟩
abbrev main_v41 : Ref sig .tc := ⟨.hbm, 69, rfl⟩
abbrev main_c_7 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_8 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_c_9 : Ref sig .tc := ⟨.hbm, 87, rfl⟩
abbrev main_v57 : Ref sig .tc := ⟨.hbm, 88, rfl⟩
abbrev main_v58 : Ref sig .tc := ⟨.hbm, 89, rfl⟩
abbrev main_c_10 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_11 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_call1_cst : Ref sig .tc := ⟨.hbm, 107, rfl⟩
abbrev main_call1_v0 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_c_12 : Ref sig .tc := ⟨.hbm, 114, rfl⟩
abbrev main_v79 : Ref sig .tc := ⟨.hbm, 115, rfl⟩
abbrev main_v80 : Ref sig .tc := ⟨.hbm, 116, rfl⟩
abbrev main_c_13 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_call2_cst : Ref sig .tc := ⟨.hbm, 128, rfl⟩
abbrev main_call2_v0 : Ref sig .tc := ⟨.hbm, 129, rfl⟩
abbrev main_v91 : Ref sig .tc := ⟨.hbm, 130, rfl⟩
abbrev main_cst_14 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_cst_15 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_cst_16 : Ref sig .tc := ⟨.hbm, 146, rfl⟩
abbrev main_v105 : Ref sig .tc := ⟨.hbm, 147, rfl⟩
abbrev main_v106 : Ref sig .tc := ⟨.hbm, 148, rfl⟩
abbrev main_cst_17 : Ref sig .tc := ⟨.hbm, 149, rfl⟩
abbrev main_v107 : Ref sig .tc := ⟨.hbm, 150, rfl⟩
abbrev main_v108 : Ref sig .tc := ⟨.hbm, 151, rfl⟩

abbrev nD : Nat := 1
abbrev τ : Topo := Topo.v7x

variable {F : FTy → Type} [FloatOps F]
-- ==== Proof.Extended.lean ====
/- Extended reals: the two distributive laws that let a dense layer be applied before a sum instead of after it, what
   becomes of them where a feature is infinite, and the normalization's quotient is finite. No array and no program
   here. -/
module

public import Idealize.ShloMosaic.PureOps.Ideal
public import Idealize.ShloMosaic.PureOps.Ideal.Laws
public import Idealize.ShloMosaic.Lib.IdealHost

@[expose] public section

noncomputable section

open scoped BigOperators

namespace Cert.Extended

open Idealize.ShloMosaic

/-- An extended real that is a real number. -/
def IsReal (x : EReal) : Prop := ∃ r : ℝ, x = (r : EReal)

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem isReal_zero : IsReal 0 := ⟨0, EReal.coe_zero.symm⟩

theorem isReal_one : IsReal 1 := ⟨1, EReal.coe_one.symm⟩

/-- The larger of two real numbers is one. -/
theorem IsReal.max {x y : EReal} (hx : IsReal x) (hy : IsReal y) : IsReal (max x y) := by
  rcases max_choice x y with h | h <;> rw [h] <;> assumption

/-- A finite sum of real numbers is a real number. -/
theorem IsReal.sum {ι : Type} (s : Finset ι) {f : ι → EReal} (hf : ∀ i, IsReal (f i)) : IsReal (∑ i ∈ s, f i) := by
  classical
  induction s using Finset.induction_on with
  | empty => rw [Finset.sum_empty]; exact isReal_zero
  | insert a s ha ih => rw [Finset.sum_insert ha]; exact (hf a).add ih

/-- An extended real strictly below `⊤` in absolute value is a real number. -/
theorem isReal_of_abs_lt {x : EReal} (h : max x (-x) < ⊤) : IsReal x := by
  induction x with
  | bot => exact absurd h (by simp)
  | top => exact absurd h (by simp)
  | coe r => exact ⟨r, rfl⟩

/-- Summands that are not negative are multiplied by a common factor one by one, whatever the factor. -/
theorem sum_mul_of_nonneg {ι : Type} (s : Finset ι) {f : ι → EReal} (hf : ∀ i, 0 ≤ f i) (w : EReal) :
    (∑ i ∈ s, f i) * w = ∑ i ∈ s, f i * w := by
  classical
  induction s using Finset.induction_on with
  | empty => rw [Finset.sum_empty, Finset.sum_empty, zero_mul]
  | insert a s ha ih =>
    rw [Finset.sum_insert ha, Finset.sum_insert ha, EReal.right_distrib_of_nonneg (hf a) (Finset.sum_nonneg fun i _ => hf i), ih]

/-- A real factor multiplies a sum of real numbers one by one. -/
theorem mul_sum_of_real {ι : Type} (s : Finset ι) {f : ι → EReal} (hf : ∀ i, IsReal (f i)) {k : EReal} (hk : IsReal k) :
    k * ∑ i ∈ s, f i = ∑ i ∈ s, k * f i := by
  classical
  obtain ⟨q, rfl⟩ := hk
  choose g hg using hf
  simp only [hg]
  induction s using Finset.induction_on with
  | empty => rw [Finset.sum_empty, Finset.sum_empty, mul_zero]
  | insert a s ha ih =>
    rw [Finset.sum_insert ha, Finset.sum_insert ha, ← ih]
    obtain ⟨t, ht⟩ := IsReal.sum s (f := fun i => (g i : EReal)) fun i => ⟨g i, rfl⟩
    rw [ht, ← EReal.coe_add, ← EReal.coe_mul, ← EReal.coe_mul, ← EReal.coe_mul, ← EReal.coe_add, mul_add]

/-- A real number plus a number that is not negative, times a real number: the product distributes, also where the
    second summand is `⊤`. -/
theorem add_mul_of_real {a A w : EReal} (ha : IsReal a) (hA : 0 ≤ A) (hw : IsReal w) : (a + A) * w = a * w + A * w := by
  obtain ⟨r, rfl⟩ := ha
  obtain ⟨q, rfl⟩ := hw
  induction A with
  | bot => exact absurd hA (by simp)
  | coe t => rw [← EReal.coe_add, ← EReal.coe_mul, ← EReal.coe_mul, ← EReal.coe_mul, ← EReal.coe_add, add_mul]
  | top =>
    rw [EReal.coe_add_top]
    rcases lt_trichotomy q 0 with h | h | h
    · rw [EReal.top_mul_coe_of_neg h, EReal.add_bot]
    · subst h; simp
    · rw [EReal.top_mul_coe_of_pos h, ← EReal.coe_mul, EReal.coe_add_top]

/-- THE LAYER'S EQUATION at one node and one output channel. `x h` is the node's feature `h`, `M e h` what edge `e`
    carries of it, `P e` says that the edge ends at the node, `w h` is the weight of feature `h`. Weighing the sum
    `k · x + Σ M` of the features is weighing the features and the messages first. -/
theorem layer {H E : ℕ} (P : Fin E → Prop) [DecidablePred P] {k : EReal} (hk : IsReal k) {x w : Fin H → EReal}
    (hx : ∀ h, IsReal (x h)) (hw : ∀ h, IsReal (w h)) {M : Fin E → Fin H → EReal} (hM : ∀ e h, 0 ≤ M e h) :
    ∑ h, (k * x h + ∑ e, if P e then M e h else 0) * w h
      = k * (∑ h, x h * w h) + ∑ e, if P e then ∑ h, M e h * w h else 0 := by
  have hP : ∀ e h, 0 ≤ (if P e then M e h else 0) := fun e h => by
    split
    · exact hM e h
    · exact le_rfl
  rw [mul_sum_of_real _ (fun h => (hx h).mul (hw h)) hk]
  have e1 : ∀ h, (k * x h + ∑ e, if P e then M e h else 0) * w h
      = k * (x h * w h) + ∑ e, (if P e then M e h * w h else 0) := fun h => by
    rw [add_mul_of_real (hk.mul (hx h)) (Finset.sum_nonneg fun e _ => hP e h) (hw h), mul_assoc,
      sum_mul_of_nonneg _ (fun e => hP e h)]
    refine congrArg _ (Finset.sum_congr rfl fun e _ => ?_)
    split
    · rfl
    · exact zero_mul _
  rw [Finset.sum_congr rfl fun h _ => e1 h, Finset.sum_add_distrib, Finset.sum_comm]
  refine congrArg _ (Finset.sum_congr rfl fun e _ => ?_)
  split
  · rfl
  · exact Finset.sum_const_zero

/-- A summand of a real sum is real: nothing added to an infinity gives a real number. -/
theorem isReal_of_add {a b : EReal} (h : IsReal (a + b)) : IsReal a ∧ IsReal b := by
  obtain ⟨r, hr⟩ := h
  induction a with
  | bot => rw [EReal.bot_add] at hr; exact absurd hr.symm (EReal.coe_ne_bot r)
  | top =>
    induction b with
    | bot => rw [EReal.add_bot] at hr; exact absurd hr.symm (EReal.coe_ne_bot r)
    | top => rw [EReal.top_add_top] at hr; exact absurd hr.symm (EReal.coe_ne_top r)
    | coe t => rw [EReal.top_add_coe] at hr; exact absurd hr.symm (EReal.coe_ne_top r)
  | coe q =>
    induction b with
    | bot => rw [EReal.add_bot] at hr; exact absurd hr.symm (EReal.coe_ne_bot r)
    | top => rw [EReal.coe_add_top] at hr; exact absurd hr.symm (EReal.coe_ne_top r)
    | coe t => exact ⟨⟨q, rfl⟩, ⟨t, rfl⟩⟩

/-- Every summand of a real finite sum is real. -/
theorem isReal_of_sum {ι : Type} {s : Finset ι} {f : ι → EReal} (h : IsReal (∑ i ∈ s, f i)) {i : ι} (hi : i ∈ s) :
    IsReal (f i) := by
  classical
  rw [← Finset.add_sum_erase s f hi] at h
  exact (isReal_of_add h).1

/-- A number whose product with a real number other than zero is real is real. -/
theorem isReal_of_mul {a w : EReal} (hw : IsReal w) (h0 : w ≠ 0) (h : IsReal (a * w)) : IsReal a := by
  obtain ⟨q, rfl⟩ := hw
  obtain ⟨r, hr⟩ := h
  have hq : q ≠ 0 := fun e => h0 (by rw [e]; rfl)
  induction a with
  | coe t => exact ⟨t, rfl⟩
  | bot =>
    rcases lt_or_gt_of_ne hq with h | h
    · rw [EReal.bot_mul_coe_of_neg h] at hr; exact absurd hr.symm (EReal.coe_ne_top r)
    · rw [EReal.bot_mul_coe_of_pos h] at hr; exact absurd hr.symm (EReal.coe_ne_bot r)
  | top =>
    rcases lt_or_gt_of_ne hq with h | h
    · rw [EReal.top_mul_coe_of_neg h] at hr; exact absurd hr.symm (EReal.coe_ne_bot r)
    · rw [EReal.top_mul_coe_of_pos h] at hr; exact absurd hr.symm (EReal.coe_ne_top r)

/-- Two extended reals match: they are equal, or both are infinite, of whatever signs. -/
def Matches (a b : EReal) : Prop := a = b ∨ (¬ IsReal a ∧ ¬ IsReal b)

/-- Adding the same number to both sides keeps a match. -/
theorem Matches.add {a b : EReal} (h : Matches a b) (c : EReal) : Matches (a + c) (b + c) := by
  rcases h with rfl | ⟨ha, hb⟩
  · exact Or.inl rfl
  · exact Or.inr ⟨fun h => ha (isReal_of_add h).1, fun h => hb (isReal_of_add h).1⟩

/-- The layer's equation where the features may be infinite too: the two sides match. They can differ only where both
    are infinite, because the features are weighed by real numbers on both sides and an infinite one survives on both
    unless its weight is zero. -/
theorem layer_matches {H E : ℕ} (P : Fin E → Prop) [DecidablePred P] {k : EReal} (hk : IsReal k) {x w : Fin H → EReal}
    (hw : ∀ h, IsReal (w h)) {M : Fin E → Fin H → EReal} (hM : ∀ e h, 0 ≤ M e h) :
    Matches (∑ h, (k * x h + ∑ e, if P e then M e h else 0) * w h)
      (k * (∑ h, x h * w h) + ∑ e, if P e then ∑ h, M e h * w h else 0) := by
  by_cases hk0 : k = 0
  · left
    have e := layer P hk (x := fun _ => 0) (fun _ => isReal_zero) hw hM
    rw [hk0] at e ⊢
    simpa only [zero_mul] using e
  by_cases hx : ∃ h, ¬ IsReal (x h) ∧ w h ≠ 0
  · obtain ⟨h, hxh, hwh⟩ := hx
    right
    refine ⟨fun hL => hxh ?_, fun hR => hxh ?_⟩
    · have t := (isReal_of_add (isReal_of_mul (hw h) hwh (isReal_of_sum hL (Finset.mem_univ h)))).1
      rw [mul_comm] at t
      exact isReal_of_mul hk hk0 t
    · have t := (isReal_of_add hR).1
      rw [mul_comm] at t
      exact isReal_of_mul (hw h) hwh (isReal_of_sum (isReal_of_mul hk hk0 t) (Finset.mem_univ h))
  · left
    push Not at hx
    have e := layer P hk (x := fun h => if w h = 0 then 0 else x h) (fun h => by
      split
      · exact isReal_zero
      · rename_i h0
        by_contra hn
        exact h0 (hx h hn)) hw hM
    have e1 : ∀ h, (if w h = 0 then 0 else x h) * w h = x h * w h := fun h => by
      split
      · rename_i h0; rw [h0, mul_zero, mul_zero]
      · rfl
    have e2 : ∀ h, (k * (if w h = 0 then 0 else x h) + ∑ e, if P e then M e h else 0) * w h
        = (k * x h + ∑ e, if P e then M e h else 0) * w h := fun h => by
      split
      · rename_i h0; rw [h0, mul_zero, mul_zero]
      · rfl
    rw [Finset.sum_congr rfl fun h _ => e1 h, Finset.sum_congr rfl fun h _ => e2 h] at e
    exact e

/-- A square is not negative. -/
theorem mul_self_nonneg (s : EReal) : 0 ≤ s * s := by
  induction s with
  | bot => simp
  | top => simp
  | coe r => rw [← EReal.coe_mul]; exact EReal.coe_nonneg.2 (_root_.mul_self_nonneg r)

/-- The square of an infinity is `⊤`. -/
theorem mul_self_of_not_real {s : EReal} (h : ¬ IsReal s) : s * s = ⊤ := by
  induction s with
  | bot => exact EReal.bot_mul_bot
  | top => exact EReal.top_mul_top
  | coe r => exact absurd ⟨r, rfl⟩ h

/-- A number that is not negative, divided by a positive real number, is not negative. -/
theorem div_nonneg {x c : EReal} (hx : 0 ≤ x) (hc : IsReal c) (hc0 : 0 < c) : 0 ≤ Ideal.div x c := by
  obtain ⟨r, rfl⟩ := hc
  have hr : 0 < r := EReal.coe_pos.1 hc0
  rw [Ideal.div_coe hr.ne']
  exact mul_nonneg hx (EReal.coe_nonneg.2 (by positivity))

/-- `⊤` divided by a positive real number is `⊤`. -/
theorem top_div {c : EReal} (hc : IsReal c) (hc0 : 0 < c) : Ideal.div ⊤ c = ⊤ := by
  obtain ⟨r, rfl⟩ := hc
  have hr : 0 < r := EReal.coe_pos.1 hc0
  rw [Ideal.div_coe hr.ne']
  exact EReal.top_mul_coe_of_pos (by positivity)

/-- Any number divided by the root of `⊤` is zero. -/
theorem div_sqrt_top {a ε : EReal} (hε : IsReal ε) : Ideal.div a (Ideal.sqrt (⊤ + ε)) = 0 := by
  obtain ⟨e, rfl⟩ := hε
  rw [EReal.top_add_coe, show Ideal.sqrt ⊤ = ⊤ from rfl, Ideal.div, if_neg EReal.top_ne_zero, EReal.inv_top, mul_zero]

/-- THE NORMALIZED VALUE IS FINITE: a deviation `s` scaled by a real number and divided by `√(v + ε)`, where the variance
    `v` is not negative and is `⊤` wherever `s` is an infinity. -/
theorem isReal_div_sqrt {g s v ε : EReal} (hg : IsReal g) (hv : 0 ≤ v) (hε : IsReal ε) (hε0 : 0 < ε)
    (hs : ¬ IsReal s → v = ⊤) : IsReal (Ideal.div (g * s) (Ideal.sqrt (v + ε))) := by
  induction v with
  | bot => exact absurd hv (by simp)
  | top =>
    rw [div_sqrt_top hε]
    exact isReal_zero
  | coe r =>
    obtain ⟨e, rfl⟩ := hε
    have he : 0 < e := EReal.coe_pos.1 hε0
    have hr : 0 ≤ r := EReal.coe_nonneg.1 hv
    have hs' : IsReal s := by
      by_contra h
      exact EReal.coe_ne_top r (hs h)
    have hq : ¬ r + e < 0 := not_lt.2 (add_nonneg hr he.le)
    have e1 : Ideal.sqrt ((r : EReal) + (e : EReal)) = ((Real.sqrt (r + e) : ℝ) : EReal) := by
      rw [← EReal.coe_add]
      show (if r + e < 0 then (⊥ : EReal) else (Real.sqrt (r + e) : EReal)) = _
      rw [if_neg hq]
    have h0 : Real.sqrt (r + e) ≠ 0 := (Real.sqrt_pos.2 (by linarith)).ne'
    rw [e1, Ideal.div_coe h0]
    exact (hg.mul hs').mul ⟨_, rfl⟩

/-- The f32 pattern `0x3727C5AC`, the printed `1e-5`, is the real number `10995116 · 2⁻⁴⁰`. -/
theorem ofBits_eps : Ideal.ofBits .f32 0x3727C5AC#32 = (((10995116 : ℝ) * 2 ^ (-40 : ℤ) : ℝ) : EReal) := by
  simp [Ideal.ofBits, Ideal.ieee, -EReal.coe_mul]

theorem isReal_eps : IsReal (Ideal.ofBits .f32 0x3727C5AC#32) := ⟨_, ofBits_eps⟩

theorem eps_pos : 0 < Ideal.ofBits .f32 0x3727C5AC#32 := by
  rw [ofBits_eps]; exact EReal.coe_pos.2 (by positivity)

/-- The f32 pattern `0x7F800000` is `⊤`. -/
theorem ofBits_inf : Ideal.ofBits .f32 0x7F800000#32 = ⊤ := by
  simp [Ideal.ofBits, Ideal.ieee]

end Cert.Extended

end
-- ==== Proof.Rows.lean ====
/- The host operations of a graph layer read at one entry: a segment sum of rows, and what it says of a segment that
   receives a row. Every size is a variable. -/
module

public import proofs.«01_k».proof.Proof.Extended
public import Idealize.ShloMosaic.Lib.Routing.Ops
public import Idealize.ShloMosaic.Lib.Routing.OpsPair
public import Idealize.ShloMosaic.Lib.StackMember

@[expose] public section

noncomputable section

open scoped BigOperators

namespace Cert.Rows

open Idealize.ShloMosaic Idealize.ShloMosaic.ValueIdx Idealize.ShloMosaic.Routing Cert.Extended

/-- The dimension numbers of `jax.ops.segment_sum` over the rows of an `[E, C]` array into `R` segments. -/
abbrev rowDims {R C E : ℕ} (wf : ScatterDims.WF (shape2 R C) (shape2 E 1) (shape2 E C) [1] [0] [0] 1) :
    ScatterDims (shape2 R C) (shape2 E 1) (shape2 E C) := ⟨[1], [0], [0], 1, wf⟩

/-- Entry `(e, c')` of the rows lands at segment `r`, column `c`, exactly when row `e` names the segment `r` and the columns agree. -/
theorem lands_iff {R C E : ℕ} (wf : ScatterDims.WF (shape2 R C) (shape2 E 1) (shape2 E C) [1] [0] [0] 1)
    (idx : IVec (shape2 E 1) 32) (e : Fin E) (c' : Fin C) (r : Fin R) (c : Fin C) :
    (rowDims wf).resultIdx? (ix2 e c') idx = some (ix2 r c) ↔ (idx (ix2 e (0 : Fin 1))).toInt = (r.val : ℤ) ∧ c' = c := by
  have hs0 : (rowDims wf).start (ix2 e c') idx 0 = (idx (ix2 e (0 : Fin 1))).toInt := by
    unfold ScatterDims.start
    rw [dif_pos (by simp)]
    refine congrArg (fun i => (idx i).toInt) (funext fun b => Fin.ext ?_)
    match b with
    | ⟨0, _⟩ => rfl
    | ⟨1, _⟩ => rfl
  have hs1 : (rowDims wf).start (ix2 e c') idx 1 = 0 := by
    unfold ScatterDims.start
    rw [dif_neg (by simp)]
  have hw0 : (rowDims wf).window (ix2 e c') 0 = 0 := rfl
  have hw1 : (rowDims wf).window (ix2 e c') 1 = c'.val := rfl
  rw [resultIdx?_ix2, hs0, hs1, hw0, hw1]
  constructor
  · rintro ⟨h0, h1⟩
    exact ⟨by simpa using h0, Fin.ext (by simpa using h1)⟩
  · rintro ⟨h0, rfl⟩
    exact ⟨by simpa using h0, by simp⟩

/-- A SEGMENT SUM OF ROWS at segment `r`, column `c`: what was there plus the sum of that column over the rows that name the segment. -/
theorem segment_sum {R C E : ℕ} (wf : ScatterDims.WF (shape2 R C) (shape2 E 1) (shape2 E C) [1] [0] [0] 1)
    (x : FVec Ideal (shape2 R C) .f32) (idx : IVec (shape2 E 1) 32) (u : FVec Ideal (shape2 E C) .f32) (r : Fin R) (c : Fin C) :
    Host.scatterAdd (rowDims wf) x idx u (ix2 r c)
      = x (ix2 r c) + ∑ e : Fin E, if (idx (ix2 e (0 : Fin 1))).toInt = (r.val : ℤ) then u (ix2 e c) else 0 := by
  show Ideal.hostScatterAdd (rowDims wf) x idx u (ix2 r c) = _
  unfold Ideal.hostScatterAdd
  rw [Finset.sum_filter, sum_idx2]
  refine congrArg _ (Finset.sum_congr rfl fun e _ => ?_)
  simp only [lands_iff]
  by_cases h : (idx (ix2 e (0 : Fin 1))).toInt = (r.val : ℤ)
  · rw [if_pos h]
    rw [Finset.sum_eq_single c]
    · rw [if_pos ⟨h, rfl⟩]
    · intro b _ hb
      exact if_neg fun q => hb q.2
    · intro q
      exact absurd (Finset.mem_univ c) q
  · rw [if_neg h]
    exact Finset.sum_eq_zero fun b _ => if_neg fun q => h q.1

/-- A dense product at row `r`, column `c`. -/
theorem dense {m k n : ℕ} (wf : DotDims.WF (shape2 m k) (shape2 k n) (shape2 m n) [1] [0] [0] [1] [] [])
    (A : FVec Ideal (shape2 m k) .f32) (B : FVec Ideal (shape2 k n) .f32) (r : Fin m) (c : Fin n) :
    Host.dotGeneral (⟨[1], [0], [0], [1], [], [], wf⟩ : DotDims (shape2 m k) (shape2 k n) (shape2 m n)) none A B (ix2 r c)
      = ∑ h : Fin k, A (ix2 r h) * B (ix2 h c) :=
  StackMember.dotGeneral_plain_apply none A B r c

end Cert.Rows

end
-- ==== Proof.Stages.lean ====
/- The stages of the network as functions of arrays, over the extended reals.

   Both programs compute the same messages on the edges, the same graph normalisation and the same
   second messages. They differ in one thing only: a layer of the reference sums the messages into the
   rows first and multiplies by the layer's matrix afterwards (`sumThenDense`), and a layer of the kernel
   multiplies first and sums afterwards (`denseThenSum`). -/
module

public import proofs.«01_k».proof.Proof.Rows
public import proofs.«01_k».proof.Proof.Gen.ReferenceIdeal
public import proofs.«01_k».proof.Proof.Gen.KernelIdeal

@[expose] public section

noncomputable section

namespace Cert.Stages

open Cert.ReferenceIdeal Cert.ReferenceIdeal.Gen Idealize.ShloMosaic

/-- An array of 32-bit floats, each read as an extended real. -/
abbrev Arr (s : Shape) := FVec Ideal s .f32

/-- The row each edge sends its message to: the second row of the edge list, as a column. -/
def dst (ei : IVec S2x320000 32) : IVec S320000x1 32 :=
  broadcastInDim S320000x1 ![0] bcast_S320000_S320000x1_0
    (shapeCast _ (extractStridedSlice S1x320000 ![1, 0] ei slices_S2x320000_S1x320000_1_0)
      shapeCasts_S1x320000_S320000)

/-- The first row of the edge list. -/
def srcRow (ei : IVec S2x320000 32) : IVec S320000 32 :=
  shapeCast _ (extractStridedSlice S1x320000 ![0, 0] ei slices_S2x320000_S1x320000_0_0)
    shapeCasts_S1x320000_S320000

/-- The row each edge reads: the first row of the edge list, a negative entry counted from the end. -/
def src (ei : IVec S2x320000 32) : IVec S320000x1 32 :=
  broadcastInDim S320000x1 ![0] bcast_S320000_S320000x1_0
    (select (cmpi .slt (srcRow ei) (broadcastInDim S320000 ![] bcast_S_S320000 (constantI S_ 32 0#32)))
      (addi (srcRow ei) (broadcastInDim S320000 ![] bcast_S_S320000 (constantI S_ 32 10000#32)))
      (srcRow ei))

/-- The messages of the first layer: for each edge the positive part of the row it reads, plus its
attributes times a matrix, plus a bias. -/
def messages1 (x : Arr S10000x128) (ei : IVec S2x320000 32) (ea : Arr S320000x16) (eW : Arr S16x128)
    (eb : Arr S128) : Arr S320000x128 :=
  maximumf
    (addf
      (addf (Host.gather gather_S10000x128_S320000x1_S320000x128_1_0_n_n_0_1_1128 x (src ei))
        (Host.dotGeneral dot_S320000x16_S16x128_S320000x128_1_0_0_1_n_n none ea eW))
      (broadcastInDim S320000x128 ![0, 1] bcast_S1x128_S320000x128_0_1
        (broadcastInDim S1x128 ![1] bcast_S128_S1x128_1 eb)))
    (broadcastInDim S320000x128 ![] bcast_S_S320000x128 (constant S_ .f32 0x00000000#32))

/-- The messages of the second layer, of five entries each. -/
def messages2 (h : Arr S10000x5) (ei : IVec S2x320000 32) (ea : Arr S320000x16) (eW : Arr S16x5)
    (eb : Arr S5) : Arr S320000x5 :=
  maximumf
    (addf
      (addf (Host.gather gather_S10000x5_S320000x1_S320000x5_1_0_n_n_0_1_15 h (src ei))
        (Host.dotGeneral dot_S320000x16_S16x5_S320000x5_1_0_0_1_n_n none ea eW))
      (broadcastInDim S320000x5 ![0, 1] bcast_S1x5_S320000x5_0_1
        (broadcastInDim S1x5 ![1] bcast_S5_S1x5_1 eb)))
    (broadcastInDim S320000x5 ![] bcast_S_S320000x5 (constant S_ .f32 0x00000000#32))

/-- The factor a layer gives a node's own row: one plus the layer's parameter. -/
def ownFactor (e : Arr S_) : Arr S_ := addf (constant S_ .f32 0x3F800000#32) e

/-- The first layer as the reference computes it: own row and summed messages, then the matrix. -/
def sumThenDense1 (x : Arr S10000x128) (ei : IVec S2x320000 32) (e : Arr S_) (M : Arr S320000x128)
    (W : Arr S128x5) : Arr S10000x5 :=
  Host.dotGeneral dot_S10000x128_S128x5_S10000x5_1_0_0_1_n_n none
    (addf (mulf (broadcastInDim S10000x128 ![] bcast_S_S10000x128 (ownFactor e)) x)
      (Host.scatterAdd scatter_S10000x128_S320000x1_S320000x128_1_0_0_1
        (broadcastInDim S10000x128 ![] bcast_S_S10000x128 (constant S_ .f32 0x00000000#32)) (dst ei) M)) W

/-- The first layer as the kernel computes it: the matrix on rows and on messages, then the sum. -/
def denseThenSum1 (x : Arr S10000x128) (ei : IVec S2x320000 32) (e : Arr S_) (M : Arr S320000x128)
    (W : Arr S128x5) : Arr S10000x5 :=
  addf
    (mulf (broadcastInDim S10000x5 ![] bcast_S_S10000x5 (ownFactor e))
      (Host.dotGeneral dot_S10000x128_S128x5_S10000x5_1_0_0_1_n_n none x W))
    (Host.scatterAdd KernelIdeal.scatter_S10000x5_S320000x1_S320000x5_1_0_0_1
      (broadcastInDim S10000x5 ![] bcast_S_S10000x5 (constant S_ .f32 0x00000000#32)) (dst ei)
      (Host.dotGeneral KernelIdeal.dot_S320000x128_S128x5_S320000x5_1_0_0_1_n_n none M W))

/-- The second layer as the reference computes it. -/
def sumThenDense2 (h : Arr S10000x5) (ei : IVec S2x320000 32) (e : Arr S_) (M : Arr S320000x5)
    (W : Arr S5x1) : Arr S10000x1 :=
  Host.dotGeneral dot_S10000x5_S5x1_S10000x1_1_0_0_1_n_n none
    (addf (mulf (broadcastInDim S10000x5 ![] bcast_S_S10000x5 (ownFactor e)) h)
      (Host.scatterAdd scatter_S10000x5_S320000x1_S320000x5_1_0_0_1
        (broadcastInDim S10000x5 ![] bcast_S_S10000x5 (constant S_ .f32 0x00000000#32)) (dst ei) M)) W

/-- The second layer as the kernel computes it. -/
def denseThenSum2 (h : Arr S10000x5) (ei : IVec S2x320000 32) (e : Arr S_) (M : Arr S320000x5)
    (W : Arr S5x1) : Arr S10000x1 :=
  addf
    (mulf (broadcastInDim S10000x1 ![] KernelIdeal.Gen.bcast_S_S10000x1 (ownFactor e))
      (Host.dotGeneral dot_S10000x5_S5x1_S10000x1_1_0_0_1_n_n none h W))
    (Host.scatterAdd KernelIdeal.scatter_S10000x1_S320000x1_S320000x1_1_0_0_1
      (broadcastInDim S10000x1 ![] KernelIdeal.Gen.bcast_S_S10000x1 (constant S_ .f32 0x00000000#32)) (dst ei)
      (Host.dotGeneral KernelIdeal.dot_S320000x5_S5x1_S320000x1_1_0_0_1_n_n none M W))

/-- A vector of five entries laid along every row. -/
def alongRows (b : Arr S5) : Arr S10000x5 :=
  broadcastInDim S10000x5 ![0, 1] bcast_S1x5_S10000x5_0_1 (broadcastInDim S1x5 ![1] bcast_S5_S1x5_1 b)

/-- The one-entry bias of the second layer laid along every row. -/
def alongColumn (b : Arr S1) : Arr S10000x1 :=
  broadcastInDim S10000x1 ![0, 1] bcast_S1x1_S10000x1_0_1 (broadcastInDim S1x1 ![1] bcast_S1_S1x1_1 b)

/-- The graph each node belongs to, as a column. -/
def graphOf (g : IVec S10000 32) : IVec S10000x1 32 :=
  broadcastInDim S10000x1 ![0] bcast_S10000_S10000x1_0 g

/-- The graph each node reads its statistics from: a negative number counts from the end. -/
def graphRead (g : IVec S10000 32) : IVec S10000x1 32 :=
  broadcastInDim S10000x1 ![0] bcast_S10000_S10000x1_0
    (select (cmpi .slt g (broadcastInDim S10000 ![] bcast_S_S10000 (constantI S_ 32 0#32)))
      (addi g (broadcastInDim S10000 ![] bcast_S_S10000 (constantI S_ 32 64#32))) g)

/-- The number of nodes of each graph, at least one. -/
def sizes (g : IVec S10000 32) : Arr S64 :=
  maximumf
    (Host.scatterAdd scatter_S64_S10000x1_S10000_n_0_0_1
      (broadcastInDim S64 ![] bcast_S_S64 (constant S_ .f32 0x00000000#32)) (graphOf g)
      (broadcastInDim S10000 ![] bcast_S_S10000 (constant S_ .f32 0x3F800000#32)))
    (broadcastInDim S64 ![] bcast_S_S64 (constant S_ .f32 0x3F800000#32))

/-- The mean of the rows of each graph. -/
def means (g : IVec S10000 32) (h : Arr S10000x5) : Arr S64x5 :=
  Host.divf
    (Host.scatterAdd scatter_S64x5_S10000x1_S10000x5_1_0_0_1
      (broadcastInDim S64x5 ![] bcast_S_S64x5 (constant S_ .f32 0x00000000#32)) (graphOf g) h)
    (broadcastInDim S64x5 ![0, 1] bcast_S64x1_S64x5_0_1 (broadcastInDim S64x1 ![0] bcast_S64_S64x1_0 (sizes g)))

/-- Each row less the scaled mean of its graph. -/
def centred (g : IVec S10000 32) (ms : Arr S5) (h : Arr S10000x5) : Arr S10000x5 :=
  subf h (mulf (alongRows ms)
    (Host.gather gather_S64x5_S10000x1_S10000x5_1_0_n_n_0_1_15 (means g h) (graphRead g)))

/-- The positive part of the normalised rows: each centred row `s` divided by the root of its graph's
mean of squares plus a small constant, scaled and shifted. -/
def normalised (g : IVec S10000 32) (w b : Arr S5) (s : Arr S10000x5) : Arr S10000x5 :=
  maximumf
    (addf
      (Host.divf (mulf (alongRows w) s)
        (Host.sqrt
          (addf
            (Host.gather gather_S64x5_S10000x1_S10000x5_1_0_n_n_0_1_15 (means g (mulf s s)) (graphRead g))
            (broadcastInDim S10000x5 ![] bcast_S_S10000x5 (constant S_ .f32 0x3727C5AC#32)))))
      (alongRows b))
    (broadcastInDim S10000x5 ![] bcast_S_S10000x5 (constant S_ .f32 0x00000000#32))

/-- The features between the two layers, from the first layer's product `d`: bias, graph normalisation,
positive part. -/
def hidden (d : Arr S10000x5) (b1 : Arr S5) (g : IVec S10000 32) (w b ms : Arr S5) : Arr S10000x5 :=
  normalised g w b (centred g ms (addf d (alongRows b1)))

/-- The sigmoid as the reference writes it: `1 / (1 + exp (-z))`. -/
def sigmoid (z : Arr S10000x1) : Arr S10000x1 :=
  Host.divf (broadcastInDim S10000x1 ![] bcast_S_S10000x1 (constant S_ .f32 0x3F800000#32))
    (addf (broadcastInDim S10000x1 ![] bcast_S_S10000x1 (constant S_ .f32 0x3F800000#32))
      (Host.exp (Host.negf z)))

/-- What the reference puts through the sigmoid. -/
def referenceLogits (x : Arr S10000x128) (ei : IVec S2x320000 32) (ea : Arr S320000x16)
    (g : IVec S10000 32) (e1 : Arr S_) (eW1 : Arr S16x128) (eb1 : Arr S128) (W1 : Arr S128x5)
    (b1 w b ms : Arr S5) (e2 : Arr S_) (eW2 : Arr S16x5) (eb2 : Arr S5) (W2 : Arr S5x1)
    (b2 : Arr S1) : Arr S10000x1 :=
  let h := hidden (sumThenDense1 x ei e1 (messages1 x ei ea eW1 eb1) W1) b1 g w b ms
  addf (sumThenDense2 h ei e2 (messages2 h ei ea eW2 eb2) W2) (alongColumn b2)

/-- What the kernel hands to its sigmoid call. -/
def kernelLogits (x : Arr S10000x128) (ei : IVec S2x320000 32) (ea : Arr S320000x16)
    (g : IVec S10000 32) (e1 : Arr S_) (eW1 : Arr S16x128) (eb1 : Arr S128) (W1 : Arr S128x5)
    (b1 w b ms : Arr S5) (e2 : Arr S_) (eW2 : Arr S16x5) (eb2 : Arr S5) (W2 : Arr S5x1)
    (b2 : Arr S1) : Arr S10000x1 :=
  let h := hidden (denseThenSum1 x ei e1 (messages1 x ei ea eW1 eb1) W1) b1 g w b ms
  addf (denseThenSum2 h ei e2 (messages2 h ei ea eW2 eb2) W2) (alongColumn b2)

end Cert.Stages
-- ==== Proof.KernelLogits.lean ====
/- What the kernel's host operations leave for its sigmoid call: `Stages.kernelLogits` of the arguments. -/
module

public import proofs.«01_k».proof.Proof.Stages
public import proofs.«01_k».proof.Proof.Gen.KernelIdeal.Value
public import Idealize.ShloMosaic.Lib.StableHlo.Run

@[expose] public section

noncomputable section

namespace Cert.KernelLogits

open Cert.KernelIdeal Cert.KernelIdeal.Gen Idealize.ShloMosaic Idealize.ShloMosaic.TcCoe Idealize.SL.Sem Idealize.ShloMosaic.StableHlo

set_option maxRecDepth 16384 in
set_option maxHeartbeats 8000000 in
/-- The array the sigmoid call reads, as it stands when the call starts. -/
theorem entry (m : (ℓ : Loc nD τ sig) → Buf (Elt Ideal) ℓ) (c : Dev nD) :
    V m c main_v100 = Stages.kernelLogits
      (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7))
      (m ((c.tc : Thread nD τ).loc main_arg8)) (m ((c.tc : Thread nD τ).loc main_arg9))
      (m ((c.tc : Thread nD τ).loc main_arg10)) (m ((c.tc : Thread nD τ).loc main_arg11))
      (m ((c.tc : Thread nD τ).loc main_arg12)) (m ((c.tc : Thread nD τ).loc main_arg13))
      (m ((c.tc : Thread nD τ).loc main_arg14)) (m ((c.tc : Thread nD τ).loc main_arg15))
      (m ((c.tc : Thread nD τ).loc main_arg16)) := by
  show after (List.flatten [hostOps0, hostOps0_1, hostOps0_2, hostOps0_3, hostOps0_4, hostOps0_5, hostOps0_6])
    (fun b => m (c, b)) main_v100 = _
  simp only [hostOps0, hostOps0_1, hostOps0_2, hostOps0_3, hostOps0_4, hostOps0_5, hostOps0_6, List.flatten_cons,
    List.flatten_nil, List.append_nil, List.cons_append, List.nil_append, TRef.binary, TRef.nullary, TRef.unary,
    TRef.toBuf, TRef.ofBuf, cast_eq]
  after_results_simp <;> rfl

end Cert.KernelLogits

end
-- ==== Proof.KernelValue.lean ====
/- What the kernel's result holds: the logistic function of `Stages.kernelLogits` at every node. -/
module

public import proofs.«01_k».proof.Proof.KernelLogits

@[expose] public section

set_option maxRecDepth 16384

noncomputable section

namespace Cert.KernelValue

open Cert.KernelIdeal Cert.KernelIdeal.Gen Idealize.ShloMosaic Idealize.ShloMosaic.TcCoe Idealize.SL.Sem
open Idealize.ShloMosaic.ValueIdx

/-- The only step of the call. -/
abbrev step : Fin cfg0.N := ⟨0, by decide⟩

/-- The call reads its operand whole: entry `y` of the block is entry `y` of the array. -/
theorem operand_whole (y : S10000x1.Idx) : ((cfg0.win 0).blk step).view.emb y = y := by
  funext a
  apply Fin.ext
  match a with
  | ⟨0, _⟩ => show 0 * 10000 + 1 * (y 0).val = (y 0).val; omega
  | ⟨1, _⟩ => show 0 * 1 + 1 * (y 1).val = (y 1).val; omega

/-- The call writes its result whole. -/
theorem result_whole (y : S10000x1.Idx) : ((cfg0.win 1).blk step).view.emb y = y := by
  funext a
  apply Fin.ext
  match a with
  | ⟨0, _⟩ => show 0 * 10000 + 1 * (y 0).val = (y 0).val; omega
  | ⟨1, _⟩ => show 0 * 1 + 1 * (y 1).val = (y 1).val; omega

/-- What the call computes from an array `x`: the logistic function at every entry. -/
theorem body_apply (x : FVec Ideal S10000x1 .f32) (y : S10000x1.Idx) :
    out0_1 (F := Ideal) x y = (FloatOps.logistic (x y : Ideal .f32) : Ideal .f32) := by
  unfold out0_1
  rw [Value.canon1_eq]
  show FloatOps.logistic (x (r0_0.idx (Value.ix1_0 y))) = _
  congr 2
  funext a
  apply Fin.ext
  match a with
  | ⟨0, _⟩ => show 0 + 1 * (y 0).val = (y 0).val; omega
  | ⟨1, _⟩ =>
    have h : (y 1).val < 1 := (y 1).isLt
    show 0 + 1 * 0 = (y 1).val
    omega

/-- The result array after the run is the logistic function of the array the host operations left. -/
theorem result (m : (ℓ : Loc nD τ sig) → Buf (Elt Ideal) ℓ) (c : Dev nD) (z : FVec Ideal S10000x1 .f32)
    (hz : V m c main_v100 = z) (y : S10000x1.Idx) :
    (dats m 0 c).arrAt 1 cfg0.N y = (FloatOps.logistic (z y : Ideal .f32) : Ideal .f32) := by
  have b := congrFun (Value.blocks1 m c step rfl) y
  rw [Value.flushed1] at b
  have hb : (dats m 0 c).arrAt 1 cfg0.N (((cfg0.win 1).blk step).view.emb y) = out0_1 (iblk m c 0 step) y := b
  rw [result_whole] at hb
  refine hb.trans ((body_apply _ y).trans (congrArg (fun a : Ideal .f32 => (FloatOps.logistic a : Ideal .f32)) ?_))
  show V m c main_v100 (((cfg0.win 0).blk step).view.emb y) = z y
  rw [operand_whole, hz]

end Cert.KernelValue

end
-- ==== Proof.RefValue.lean ====
/- What the reference computes: its result is the sigmoid of `Stages.referenceLogits` of its arguments. -/
module

public import proofs.«01_k».proof.Proof.Stages
public import proofs.«01_k».proof.Proof.Gen.ReferenceIdeal.Run

@[expose] public section

noncomputable section

namespace Cert.RefValue

open Cert.ReferenceIdeal Cert.ReferenceIdeal.Gen Idealize.ShloMosaic Idealize.ShloMosaic.TcCoe Idealize.SL.Sem

set_option maxRecDepth 16384 in
set_option maxHeartbeats 4000000 in
/-- The reference's result, stage by stage: the operations it runs compose to the stages. -/
theorem result (m : (ℓ : Loc nD τ sig) → Buf (Elt Ideal) ℓ) (c : Dev nD) :
    Value.res_out0 m c = Stages.sigmoid (Stages.referenceLogits
      (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7))
      (m ((c.tc : Thread nD τ).loc main_arg8)) (m ((c.tc : Thread nD τ).loc main_arg9))
      (m ((c.tc : Thread nD τ).loc main_arg10)) (m ((c.tc : Thread nD τ).loc main_arg11))
      (m ((c.tc : Thread nD τ).loc main_arg12)) (m ((c.tc : Thread nD τ).loc main_arg13))
      (m ((c.tc : Thread nD τ).loc main_arg14)) (m ((c.tc : Thread nD τ).loc main_arg15))
      (m ((c.tc : Thread nD τ).loc main_arg16))) := by
  unfold Value.res_out0 Value.res_main_v108
  rfl

end Cert.RefValue

end
-- ==== Proof.Layer.lean ====
/- One layer, as arrays of any sizes: multiplying the summed messages by a matrix is summing the multiplied messages. -/
module

public import proofs.«01_k».proof.Proof.Rows

@[expose] public section

noncomputable section

open scoped BigOperators

namespace Cert.Layer

open Idealize.ShloMosaic Idealize.ShloMosaic.ValueIdx Idealize.ShloMosaic.Routing Cert.Extended Cert.Rows

/-- Two arrays of rows are equal when they agree at every row and column. -/
theorem by_entries {R C : ℕ} {f g : FVec Ideal (shape2 R C) .f32}
    (h : ∀ (r : Fin R) (c : Fin C), f (ix2 r c) = g (ix2 r c)) : f = g :=
  funext fun i => by
    rw [eq_ix2 i]
    exact h (i 0) (i 1)

section

variable {R E H C : ℕ}
  (wd : DotDims.WF (shape2 R H) (shape2 H C) (shape2 R C) [1] [0] [0] [1] [] [])
  (ws : ScatterDims.WF (shape2 R H) (shape2 E 1) (shape2 E H) [1] [0] [0] 1)
  (wd' : DotDims.WF (shape2 E H) (shape2 H C) (shape2 E C) [1] [0] [0] [1] [] [])
  (ws' : ScatterDims.WF (shape2 R C) (shape2 E 1) (shape2 E C) [1] [0] [0] 1)
  (idx : IVec (shape2 E 1) 32) (k : EReal)
  (K z x : FVec Ideal (shape2 R H) .f32) (K' z' : FVec Ideal (shape2 R C) .f32)
  (M : FVec Ideal (shape2 E H) .f32) (W : FVec Ideal (shape2 H C) .f32)

/-- The own rows `x` times `k` plus the sums of the messages `M`, all times the matrix: entry by entry. -/
theorem sum_dense_apply (hK : ∀ i, K i = k) (hz : ∀ i, z i = 0) (r : Fin R) (c : Fin C) :
    Host.dotGeneral (⟨[1], [0], [0], [1], [], [], wd⟩ : DotDims (shape2 R H) (shape2 H C) (shape2 R C)) none
        (addf (mulf K x) (Host.scatterAdd (rowDims ws) z idx M)) W (ix2 r c)
      = ∑ h, (k * x (ix2 r h)
          + ∑ e, if (idx (ix2 e (0 : Fin 1))).toInt = (r.val : ℤ) then M (ix2 e h) else 0) * W (ix2 h c) := by
  rw [dense]
  refine Finset.sum_congr rfl fun h _ => ?_
  show (K (ix2 r h) * x (ix2 r h) + Host.scatterAdd (rowDims ws) z idx M (ix2 r h)) * W (ix2 h c) = _
  rw [segment_sum, hK, hz, zero_add]

/-- The own rows times the matrix, times `k`, plus the sums of the messages times the matrix: entry by entry. -/
theorem dense_sum_apply (hK' : ∀ i, K' i = k) (hz' : ∀ i, z' i = 0) (r : Fin R) (c : Fin C) :
    addf (mulf K' (Host.dotGeneral
            (⟨[1], [0], [0], [1], [], [], wd⟩ : DotDims (shape2 R H) (shape2 H C) (shape2 R C)) none x W))
          (Host.scatterAdd (rowDims ws') z' idx (Host.dotGeneral
            (⟨[1], [0], [0], [1], [], [], wd'⟩ : DotDims (shape2 E H) (shape2 H C) (shape2 E C)) none M W)) (ix2 r c)
      = k * (∑ h, x (ix2 r h) * W (ix2 h c))
          + ∑ e, if (idx (ix2 e (0 : Fin 1))).toInt = (r.val : ℤ) then ∑ h, M (ix2 e h) * W (ix2 h c) else 0 := by
  show K' (ix2 r c) * _ + _ = _
  rw [dense, segment_sum, hK', hz', zero_add]
  refine congrArg (k * _ + ·) (Finset.sum_congr rfl fun e _ => ?_)
  rw [dense]

/-- If `k` and the matrix are finite and no message is negative, the two orders match at every entry: they agree or
both are infinite. The own rows and the messages may be infinite. -/
theorem dense_sum_matches (hK : ∀ i, K i = k) (hz : ∀ i, z i = 0) (hK' : ∀ i, K' i = k) (hz' : ∀ i, z' i = 0)
    (hk : IsReal k) (hW : ∀ i, IsReal (W i)) (hM : ∀ i, (0 : EReal) ≤ M i) (r : Fin R) (c : Fin C) :
    Matches
      (Host.dotGeneral (⟨[1], [0], [0], [1], [], [], wd⟩ : DotDims (shape2 R H) (shape2 H C) (shape2 R C)) none
        (addf (mulf K x) (Host.scatterAdd (rowDims ws) z idx M)) W (ix2 r c))
      (addf (mulf K' (Host.dotGeneral
            (⟨[1], [0], [0], [1], [], [], wd⟩ : DotDims (shape2 R H) (shape2 H C) (shape2 R C)) none x W))
          (Host.scatterAdd (rowDims ws') z' idx (Host.dotGeneral
            (⟨[1], [0], [0], [1], [], [], wd'⟩ : DotDims (shape2 E H) (shape2 H C) (shape2 E C)) none M W))
        (ix2 r c)) := by
  rw [sum_dense_apply wd ws idx k K z x M W hK hz, dense_sum_apply wd wd' ws' idx k x K' z' M W hK' hz']
  exact layer_matches (fun e : Fin E => (idx (ix2 e (0 : Fin 1))).toInt = (r.val : ℤ)) hk
    (x := fun h => x (ix2 r h)) (w := fun h => W (ix2 h c)) (M := fun e h => M (ix2 e h))
    (fun h => hW _) (fun e h => hM _)

/-- If the own rows are finite too, the two orders agree. A message may still be infinite. -/
theorem dense_sum (hK : ∀ i, K i = k) (hz : ∀ i, z i = 0) (hK' : ∀ i, K' i = k) (hz' : ∀ i, z' i = 0)
    (hk : IsReal k) (hx : ∀ i, IsReal (x i)) (hW : ∀ i, IsReal (W i)) (hM : ∀ i, (0 : EReal) ≤ M i) :
    Host.dotGeneral (⟨[1], [0], [0], [1], [], [], wd⟩ : DotDims (shape2 R H) (shape2 H C) (shape2 R C)) none
        (addf (mulf K x) (Host.scatterAdd (rowDims ws) z idx M)) W
      = addf (mulf K' (Host.dotGeneral
            (⟨[1], [0], [0], [1], [], [], wd⟩ : DotDims (shape2 R H) (shape2 H C) (shape2 R C)) none x W))
          (Host.scatterAdd (rowDims ws') z' idx (Host.dotGeneral
            (⟨[1], [0], [0], [1], [], [], wd'⟩ : DotDims (shape2 E H) (shape2 H C) (shape2 E C)) none M W)) := by
  refine by_entries fun r c => ?_
  rw [sum_dense_apply wd ws idx k K z x M W hK hz, dense_sum_apply wd wd' ws' idx k x K' z' M W hK' hz']
  exact layer (fun e : Fin E => (idx (ix2 e (0 : Fin 1))).toInt = (r.val : ℤ)) hk
    (x := fun h => x (ix2 r h)) (w := fun h => W (ix2 h c)) (M := fun e h => M (ix2 e h))
    (fun h => hx _) (fun h => hW _) (fun e h => hM _)

end

end Cert.Layer

end
-- ==== Proof.Norm.lean ====
/- The features between the two layers are finite numbers, whatever the first layer gave, and they do not depend on the
   signs of the infinities the first layer gave.

   A centred row may be infinite. Then the mean of squares of its graph is `⊤`, because the row belongs to that
   graph and no square is negative, so dividing by the root of it gives zero, for every row of the graph. -/
module

public import proofs.«01_k».proof.Proof.Stages

@[expose] public section

set_option maxRecDepth 16384

noncomputable section

open scoped BigOperators

namespace Cert.Norm

open Cert.ReferenceIdeal Cert.ReferenceIdeal.Gen Idealize.ShloMosaic Idealize.ShloMosaic.ValueIdx
open Idealize.ShloMosaic.Routing Cert.Extended Cert.Rows Cert.Stages

/-- Every node names one of the 64 graphs. -/
def Graphs (g : IVec S10000 32) : Prop := ∀ p : Fin 10000, (g (ix1 p)).toNat < 64

/-- The graph a node names. -/
def graph {g : IVec S10000 32} (hg : Graphs g) (p : Fin 10000) : Fin 64 := ⟨(g (ix1 p)).toNat, hg p⟩

/-- A graph's size, at least one, is a positive real number. -/
theorem sizes_real (g : IVec S10000 32) (b : Fin 64) : IsReal (sizes g (ix1 b)) ∧ 0 < sizes g (ix1 b) := by
  have hone : Ideal.ofBits .f32 0x3F800000#32 = 1 := Ideal.ofBits_one_f32
  have h : sizes g (ix1 b) = max (Ideal.hostScatterAdd scatter_S64_S10000x1_S10000_n_0_0_1
      (broadcastInDim S64 ![] bcast_S_S64 (constant (F := Ideal) S_ .f32 0x00000000#32)) (graphOf g)
      (broadcastInDim S10000 ![] bcast_S_S10000 (constant (F := Ideal) S_ .f32 0x3F800000#32)) (ix1 b)) 1 := by
    rw [← hone]; rfl
  rw [h]
  refine ⟨IsReal.max ?_ isReal_one, lt_max_of_lt_right one_pos⟩
  unfold Ideal.hostScatterAdd
  refine IsReal.add ?_ (IsReal.sum _ fun j => ?_)
  · rw [bc0]
    show IsReal (Ideal.ofBits .f32 0x00000000#32)
    rw [Ideal.ofBits_zero_f32]
    exact isReal_zero
  · rw [bc0]
    show IsReal (Ideal.ofBits .f32 0x3F800000#32)
    rw [hone]
    exact isReal_one

/-- A graph's mean at one column: the sum over its nodes, divided by its size. -/
theorem means_apply (g : IVec S10000 32) (h : Arr S10000x5) (b : Fin 64) (j : Fin 5) :
    means g h (ix2 b j) = Ideal.div
      (∑ p : Fin 10000, if (graphOf g (ix2 p (0 : Fin 1))).toInt = (b.val : ℤ) then h (ix2 p j) else 0)
      (sizes g (ix1 b)) := by
  unfold means
  rw [hostDivf_apply, bcRows]
  refine congrArg (fun a => Ideal.div a _) ?_
  refine (segment_sum (R := 64) (C := 5) (E := 10000) scatter_S64x5_S10000x1_S10000x5_1_0_0_1.wf _ (graphOf g) h b j).trans ?_
  rw [bc0]
  show Ideal.ofBits .f32 0x00000000#32 + _ = _
  rw [Ideal.ofBits_zero_f32, zero_add]

/-- A node's graph, as the sums read it. -/
theorem graphOf_toInt {g : IVec S10000 32} (hg : Graphs g) (p : Fin 10000) :
    (graphOf g (ix2 p (0 : Fin 1))).toInt = ((graph hg p).val : ℤ) := by
  unfold graphOf
  rw [bcCol]
  have := hg p
  show (g (ix1 p)).toInt = ((g (ix1 p)).toNat : ℤ)
  rw [BitVec.toInt_eq_toNat_cond, if_pos (by omega)]

/-- A node reads the statistics of the graph it names. -/
theorem read_graph {g : IVec S10000 32} (hg : Graphs g) (t : Arr S64x5) (p : Fin 10000) (j : Fin 5) :
    Host.gather gather_S64x5_S10000x1_S10000x5_1_0_n_n_0_1_15 t (graphRead g) (ix2 p j)
      = t (ix2 (graph hg p) j) := by
  refine gather_row _ rfl rfl rfl rfl rfl t (graphRead g) p j (graph hg p) ?_ (by norm_num)
  unfold graphRead
  rw [bcCol]
  show Scalar.select (IntOp.cmpi .slt (g (ix1 p)) 0#32) (IntOp.addi (g (ix1 p)) 64#32) (g (ix1 p)) = _
  rw [wrap_of_lt _ _ (by have := hg p; omega)]
  show g (ix1 p) = BitVec.ofNat 32 (g (ix1 p)).toNat
  rw [BitVec.ofNat_toNat, BitVec.setWidth_eq]

/-- The mean of squares of a node's graph is not negative. -/
theorem squares_nonneg {g : IVec S10000 32} (s : Arr S10000x5) (b : Fin 64) (j : Fin 5) :
    0 ≤ means g (mulf s s) (ix2 b j) := by
  obtain ⟨hc, hc0⟩ := sizes_real g b
  rw [means_apply]
  refine Extended.div_nonneg (Finset.sum_nonneg fun q _ => ?_) hc hc0
  split
  · exact Extended.mul_self_nonneg (s (ix2 q j))
  · exact le_rfl

/-- The mean of squares of a graph is `⊤` if the entry of one of its nodes is infinite. -/
theorem squares_top {g : IVec S10000 32} (hg : Graphs g) (s : Arr S10000x5) (p : Fin 10000) (j : Fin 5)
    (hs : ¬ IsReal (s (ix2 p j))) : means g (mulf s s) (ix2 (graph hg p) j) = ⊤ := by
  obtain ⟨hc, hc0⟩ := sizes_real g (graph hg p)
  rw [means_apply]
  have hterm : ∀ q : Fin 10000, (0 : EReal) ≤ if (graphOf g (ix2 q (0 : Fin 1))).toInt = ((graph hg p).val : ℤ)
      then mulf s s (ix2 q j) else 0 := fun q => by
    split
    · exact Extended.mul_self_nonneg (s (ix2 q j))
    · exact le_rfl
  have hp := Finset.single_le_sum (fun q _ => hterm q) (Finset.mem_univ p)
  rw [if_pos (graphOf_toInt hg p)] at hp
  have htop : mulf s s (ix2 p j) = ⊤ := mul_self_of_not_real hs
  rw [htop, top_le_iff] at hp
  rw [hp]
  exact top_div hc hc0

/-- A graph's means at one column depend only on the entries of its nodes in that column. -/
theorem means_congr {g : IVec S10000 32} (hg : Graphs g) {h h' : Arr S10000x5} {b : Fin 64} {j : Fin 5}
    (e : ∀ q, graph hg q = b → h (ix2 q j) = h' (ix2 q j)) : means g h (ix2 b j) = means g h' (ix2 b j) := by
  rw [means_apply, means_apply]
  refine congrArg (fun a => Ideal.div a _) (Finset.sum_congr rfl fun q _ => ?_)
  rw [graphOf_toInt hg]
  split
  · rename_i hq
    exact e q (Fin.ext (by exact_mod_cast hq))
  · rfl

/-- A centred entry: the entry less the scaled mean of the node's graph. -/
theorem centred_apply {g : IVec S10000 32} (hg : Graphs g) (ms : Arr S5) (h : Arr S10000x5) (p : Fin 10000)
    (j : Fin 5) : centred g ms h (ix2 p j) = h (ix2 p j) - ms (ix1 j) * means g h (ix2 (graph hg p) j) := by
  show h (ix2 p j) - alongRows ms (ix2 p j)
    * Host.gather gather_S64x5_S10000x1_S10000x5_1_0_n_n_0_1_15 (means g h) (graphRead g) (ix2 p j) = _
  rw [read_graph hg]
  unfold alongRows
  rw [bcCols]

/-- A normalised entry: the centred entry, scaled, over the root of its graph's mean of squares plus a small constant,
shifted, and its positive part. -/
theorem normalised_apply {g : IVec S10000 32} (hg : Graphs g) (w b : Arr S5) (s : Arr S10000x5) (p : Fin 10000)
    (j : Fin 5) : normalised g w b s (ix2 p j) = max
      (Ideal.div (w (ix1 j) * s (ix2 p j))
          (Ideal.sqrt (means g (mulf s s) (ix2 (graph hg p) j) + Ideal.ofBits .f32 0x3727C5AC#32))
        + b (ix1 j)) 0 := by
  have e : normalised g w b s (ix2 p j) = max
      (Ideal.div (alongRows w (ix2 p j) * s (ix2 p j))
          (Ideal.sqrt (Host.gather gather_S64x5_S10000x1_S10000x5_1_0_n_n_0_1_15 (means g (mulf s s)) (graphRead g) (ix2 p j)
            + Ideal.ofBits .f32 0x3727C5AC#32))
        + alongRows b (ix2 p j)) (Ideal.ofBits .f32 0x00000000#32) := by
    unfold normalised
    rfl
  rw [e, read_graph hg, Ideal.ofBits_zero_f32]
  unfold alongRows
  rw [bcCols, bcCols]

/-- The normalised rows are finite if the scale and the shift are. -/
theorem normalised_real {g : IVec S10000 32} (hg : Graphs g) {w b : Arr S5} (hw : ∀ i, IsReal (w i))
    (hb : ∀ i, IsReal (b i)) (s : Arr S10000x5) (p : Fin 10000) (j : Fin 5) :
    IsReal (normalised g w b s (ix2 p j)) := by
  rw [normalised_apply hg]
  exact ((isReal_div_sqrt (hw _) (squares_nonneg s _ j) isReal_eps eps_pos (squares_top hg s p j)).add (hb _)).max
    isReal_zero

/-- Rows that match entry by entry have the same normalised rows. Where two rows differ, both are infinite, so in both
the graph's mean of squares is `⊤` and its normalised rows are the positive part of the shift. -/
theorem normalised_congr {g : IVec S10000 32} (hg : Graphs g) (w b ms : Arr S5) {h h' : Arr S10000x5}
    (hm : ∀ (p : Fin 10000) (j : Fin 5), Matches (h (ix2 p j)) (h' (ix2 p j))) (p : Fin 10000) (j : Fin 5) :
    normalised g w b (centred g ms h) (ix2 p j) = normalised g w b (centred g ms h') (ix2 p j) := by
  rw [normalised_apply hg, normalised_apply hg]
  by_cases hall : ∀ q, graph hg q = graph hg p → h (ix2 q j) = h' (ix2 q j)
  · have hs : ∀ q, graph hg q = graph hg p → centred g ms h (ix2 q j) = centred g ms h' (ix2 q j) := fun q hq => by
      rw [centred_apply hg, centred_apply hg, hall q hq, hq, means_congr hg hall]
    have hv : means g (mulf (centred g ms h) (centred g ms h)) (ix2 (graph hg p) j)
        = means g (mulf (centred g ms h') (centred g ms h')) (ix2 (graph hg p) j) :=
      means_congr hg fun q hq => by
        show centred g ms h (ix2 q j) * centred g ms h (ix2 q j) = centred g ms h' (ix2 q j) * centred g ms h' (ix2 q j)
        rw [hs q hq]
    rw [hv, hs p rfl]
  · push Not at hall
    obtain ⟨q, hq, hne⟩ := hall
    obtain ⟨hr, hr'⟩ := (hm q j).resolve_left hne
    have hinf : ∀ {f : Arr S10000x5}, ¬ IsReal (f (ix2 q j)) →
        means g (mulf (centred g ms f) (centred g ms f)) (ix2 (graph hg p) j) = ⊤ := fun {f} hf => by
      rw [← hq]
      refine squares_top hg _ q j fun hc => hf ?_
      rw [centred_apply hg, sub_eq_add_neg] at hc
      exact (isReal_of_add hc).1
    rw [hinf hr, hinf hr', div_sqrt_top isReal_eps, div_sqrt_top isReal_eps]

/-- First layers that match entry by entry give the same features between the layers. -/
theorem hidden_congr {g : IVec S10000 32} (hg : Graphs g) (w b : Arr S5) {d d' : Arr S10000x5} (b1 ms : Arr S5)
    (hm : ∀ (p : Fin 10000) (j : Fin 5), Matches (d (ix2 p j)) (d' (ix2 p j))) :
    hidden d b1 g w b ms = hidden d' b1 g w b ms := by
  funext i
  rw [eq_ix2 i]
  exact normalised_congr hg w b ms (fun p j => (hm p j).add _) (i 0) (i 1)

/-- The features between the layers are finite. -/
theorem hidden_real {g : IVec S10000 32} (hg : Graphs g) {w b : Arr S5} (hw : ∀ i, IsReal (w i))
    (hb : ∀ i, IsReal (b i)) (d : Arr S10000x5) (b1 ms : Arr S5) (i : S10000x5.Idx) :
    IsReal (hidden d b1 g w b ms i) := by
  rw [eq_ix2 i]
  exact normalised_real hg hw hb _ (i 0) (i 1)

end Cert.Norm

end
-- ==== Proof.Equation.lean ====
/- The equation: on finite weights the kernel and the reference put the same numbers through the sigmoid. -/
module

public import proofs.«01_k».proof.Proof.Layer
public import proofs.«01_k».proof.Proof.Norm

@[expose] public section

set_option maxRecDepth 16384

noncomputable section

namespace Cert.Equation

open Cert.ReferenceIdeal Cert.ReferenceIdeal.Gen Idealize.ShloMosaic Idealize.ShloMosaic.ValueIdx
open Idealize.ShloMosaic.Routing Cert.Extended Cert.Rows Cert.Stages Cert.Norm

/-- A scalar zero laid over a whole array. -/
theorem zeros {s : Shape} (h : shape0.BroadcastsInDim s (![] : Fin 0 → Fin s.rank)) (i : s.Idx) :
    broadcastInDim s ![] h (constant (F := Ideal) S_ .f32 0x00000000#32) i = (0 : EReal) := by
  rw [bc0]
  exact Ideal.ofBits_zero_f32

/-- No message of the first layer is negative. -/
theorem messages1_nonneg (x : Arr S10000x128) (ei : IVec S2x320000 32) (ea : Arr S320000x16) (eW : Arr S16x128)
    (eb : Arr S128) (i : S320000x128.Idx) : (0 : EReal) ≤ messages1 x ei ea eW eb i := by
  rw [← zeros bcast_S_S320000x128 i]
  exact le_max_right _ _

/-- No message of the second layer is negative. -/
theorem messages2_nonneg (h : Arr S10000x5) (ei : IVec S2x320000 32) (ea : Arr S320000x16) (eW : Arr S16x5)
    (eb : Arr S5) (i : S320000x5.Idx) : (0 : EReal) ≤ messages2 h ei ea eW eb i := by
  rw [← zeros bcast_S_S320000x5 i]
  exact le_max_right _ _

/-- One plus a finite parameter is finite. -/
theorem ownFactor_real {e : Arr S_} (he : IsReal (e ix0)) : IsReal (ownFactor e ix0) := by
  refine IsReal.add ?_ he
  show IsReal (Ideal.ofBits .f32 0x3F800000#32)
  rw [Ideal.ofBits_one_f32]
  exact isReal_one

/-- The first layer: both orders of multiplying and summing agree at every entry or are both infinite there. -/
theorem layer1 (x : Arr S10000x128) (ei : IVec S2x320000 32) (e : Arr S_) (M : Arr S320000x128) (W : Arr S128x5)
    (he : IsReal (e ix0)) (hW : ∀ i, IsReal (W i)) (hM : ∀ i, (0 : EReal) ≤ M i) (p : Fin 10000) (j : Fin 5) :
    Matches (sumThenDense1 x ei e M W (ix2 p j)) (denseThenSum1 x ei e M W (ix2 p j)) :=
  Layer.dense_sum_matches (R := 10000) (E := 320000) (H := 128) (C := 5)
    dot_S10000x128_S128x5_S10000x5_1_0_0_1_n_n.wf scatter_S10000x128_S320000x1_S320000x128_1_0_0_1.wf
    KernelIdeal.dot_S320000x128_S128x5_S320000x5_1_0_0_1_n_n.wf
    KernelIdeal.scatter_S10000x5_S320000x1_S320000x5_1_0_0_1.wf
    (dst ei) (ownFactor e ix0) _ _ x _ _ M W (fun i => bc0 _ _ i) (fun i => zeros _ i) (fun i => bc0 _ _ i)
    (fun i => zeros _ i) (ownFactor_real he) hW hM p j

/-- The second layer: both orders give the same array. -/
theorem layer2 (h : Arr S10000x5) (ei : IVec S2x320000 32) (e : Arr S_) (M : Arr S320000x5) (W : Arr S5x1)
    (hh : ∀ i, IsReal (h i)) (he : IsReal (e ix0)) (hW : ∀ i, IsReal (W i)) (hM : ∀ i, (0 : EReal) ≤ M i) :
    sumThenDense2 h ei e M W = denseThenSum2 h ei e M W :=
  Layer.dense_sum (R := 10000) (E := 320000) (H := 5) (C := 1)
    dot_S10000x5_S5x1_S10000x1_1_0_0_1_n_n.wf scatter_S10000x5_S320000x1_S320000x5_1_0_0_1.wf
    KernelIdeal.dot_S320000x5_S5x1_S320000x1_1_0_0_1_n_n.wf
    KernelIdeal.scatter_S10000x1_S320000x1_S320000x1_1_0_0_1.wf
    (dst ei) (ownFactor e ix0) _ _ h _ _ M W (fun i => bc0 _ _ i) (fun i => zeros _ i) (fun i => bc0 _ _ i)
    (fun i => zeros _ i) (ownFactor_real he) hh hW hM

/-- Before the sigmoid the two programs agree. The node features, the edge attributes, the edge weights, the
biases and the scale of the mean may be infinite, and the edge list may hold any words. -/
theorem logits (x : Arr S10000x128) (ei : IVec S2x320000 32) (ea : Arr S320000x16)
    (g : IVec S10000 32) (e1 : Arr S_) (eW1 : Arr S16x128) (eb1 : Arr S128) (W1 : Arr S128x5)
    (b1 w b ms : Arr S5) (e2 : Arr S_) (eW2 : Arr S16x5) (eb2 : Arr S5) (W2 : Arr S5x1) (b2 : Arr S1)
    (hg : Graphs g) (he1 : IsReal (e1 ix0)) (hW1 : ∀ i, IsReal (W1 i))
    (hw : ∀ i, IsReal (w i)) (hb : ∀ i, IsReal (b i)) (he2 : IsReal (e2 ix0)) (hW2 : ∀ i, IsReal (W2 i)) :
    kernelLogits x ei ea g e1 eW1 eb1 W1 b1 w b ms e2 eW2 eb2 W2 b2
      = referenceLogits x ei ea g e1 eW1 eb1 W1 b1 w b ms e2 eW2 eb2 W2 b2 := by
  unfold kernelLogits referenceLogits
  rw [← hidden_congr hg w b b1 ms (layer1 x ei e1 _ W1 he1 hW1 (messages1_nonneg x ei ea eW1 eb1))]
  exact congrArg (fun z => addf z (alongColumn b2))
    (layer2 _ ei e2 _ W2 (hidden_real hg hw hb _ b1 ms) he2 hW2 (messages2_nonneg _ ei ea eW2 eb2)).symm

/-- The reference's sigmoid at one node is the logistic function of its argument there. -/
theorem sigmoid_apply (z : Arr S10000x1) (i : S10000x1.Idx) : sigmoid z i = FloatOps.logistic (z i) := by
  unfold sigmoid
  rw [hostDivf_apply]
  show Ideal.div (broadcastInDim S10000x1 ![] bcast_S_S10000x1 (constant (F := Ideal) S_ .f32 0x3F800000#32) i)
    (broadcastInDim S10000x1 ![] bcast_S_S10000x1 (constant (F := Ideal) S_ .f32 0x3F800000#32) i + Ideal.exp (-(z i)))
      = Ideal.logistic (z i)
  rw [bc0]
  show Ideal.div (Ideal.ofBits .f32 0x3F800000#32) (Ideal.ofBits .f32 0x3F800000#32 + _) = _
  rw [Ideal.ofBits_one_f32]
  rfl

end Cert.Equation

end
-- ==== Proof.Domain.lean ====
/- What the precondition says of the arguments: every node names one of the 64 graphs, and the two layer
parameters, the two layer matrices and the scale and shift of the normalisation are finite. -/
module

public import proofs.«01_k».proof.Proof.Norm
public import proofs.«01_k».proof.Proof.Gen.Pre_in_domain
public import Idealize.ShloMosaic.Lib.ReduceAll
public import Idealize.ShloMosaic.Lib.Affine

@[expose] public section

set_option maxRecDepth 16384

noncomputable section

namespace Cert.Domain

open Cert.Pre_in_domain Cert.Pre_in_domain.Gen Idealize.ShloMosaic Idealize.ShloMosaic.ValueIdx
open Idealize.ShloMosaic.Routing Cert.Extended Cert.Stages Cert.Norm

/-- A word at least 0 and below 64, both as signed numbers, is below 64 as a natural number. -/
theorem toNat_lt {v : BitVec 32} (h0 : IntOp.cmpi .sge v 0#32 = 1#1) (h1 : IntOp.cmpi .slt v 64#32 = 1#1) :
    v.toNat < 64 := by
  have a := IntOp.cmpi_sge.1 h0
  have b := IntOp.cmpi_slt.1 h1
  have e0 : (0#32 : BitVec 32).toInt = 0 := by decide
  have e1 : (64#32 : BitVec 32).toInt = 64 := by decide
  rw [e0] at a
  rw [e1] at b
  rw [BitVec.toInt_eq_toNat_cond] at a b
  have := v.isLt
  split at a <;> omega

/-- An extended real whose absolute value compares below the pattern of infinity is a real number. -/
theorem real_of_compare {a : EReal}
    (h : Ideal.cmp .olt (max a (-a)) (Ideal.ofBits .f32 0x7F800000#32) = 1#1) : IsReal a := by
  apply isReal_of_abs_lt
  by_contra hn
  rw [ofBits_inf] at h
  have e : Ideal.cmp .olt (max a (-a)) ⊤ = BitVec.ofBool (decide (max a (-a) < ⊤)) := rfl
  rw [e, decide_eq_false hn] at h
  exact absurd h (by decide)

/-- The scalar shape has one index. -/
instance : Subsingleton S_.Idx := ⟨fun a b => funext fun i => i.elim0⟩

/-- If the conjunction over an array of "the absolute value is below infinity" holds, every entry is a real number. -/
theorem real_of_all {s : Shape} {axes : List (Fin s.rank)} (a : FVec Ideal s .f32)
    (hb : S_.BroadcastsInDim s (![] : Fin 0 → Fin s.rank)) (init : S_.Idx → BitVec 1) (hr : s.ReducesTo axes S_)
    (hu : 0 < S_.numel)
    (h : Host.reduce IntOp.andi (cmpf .olt (Host.absf a)
      (broadcastInDim s ![] hb (constant (F := Ideal) S_ .f32 0x7F800000#32))) init hr hu ix0 = 1#1) (i : s.Idx) :
    IsReal (a i) := by
  have e := Host.reduce_andi_all _ init hr hu ix0 h i
  have e' : Ideal.cmp .olt (max (a i) (-(a i)))
      (broadcastInDim s ![] hb (constant (F := Ideal) S_ .f32 0x7F800000#32) i) = 1#1 := e
  rw [bc0] at e'
  exact real_of_compare e'

/-- The same for a scalar. -/
theorem real_of_scalar {axes : List (Fin S_.rank)} (a : FVec Ideal S_ .f32) (init : S_.Idx → BitVec 1)
    (hr : S_.ReducesTo axes S_) (hu : 0 < S_.numel)
    (h : Host.reduce IntOp.andi (cmpf .olt (Host.absf a) (constant (F := Ideal) S_ .f32 0x7F800000#32)) init hr hu
      ix0 = 1#1) : IsReal (a ix0) :=
  real_of_compare (Host.reduce_andi_all _ init hr hu ix0 h ix0)

/-- The precondition read off its conjunction: the words, then the six arrays. -/
theorem decode {x : Arr S10000x128} {ei : IVec S2x320000 32} {ea : Arr S320000x16} {g : IVec S10000 32}
    {e1 : Arr S_} {eW1 : Arr S16x128} {eb1 : Arr S128} {W1 : Arr S128x5} {b1 w b ms : Arr S5} {e2 : Arr S_}
    {eW2 : Arr S16x5} {eb2 : Arr S5} {W2 : Arr S5x1} {b2 : Arr S1}
    (h : fn (F := Ideal) x ei ea g e1 eW1 eb1 W1 b1 w b ms e2 eW2 eb2 W2 b2 = fun _ => 1#1) :
    Graphs g ∧ IsReal (e1 ix0) ∧ (∀ i, IsReal (W1 i)) ∧ (∀ i, IsReal (w i))
      ∧ (∀ i, IsReal (b i)) ∧ IsReal (e2 ix0) ∧ (∀ i, IsReal (W2 i)) := by
  have hall := congrFun h ix0
  unfold fn fn_part1 fn_part2 at hall
  obtain ⟨hABC, hD⟩ := IntOp.andi_eq_one.1 (show IntOp.andi _ _ = 1#1 from hall)
  obtain ⟨hAB, hC⟩ := IntOp.andi_eq_one.1 (show IntOp.andi _ _ = 1#1 from hABC)
  obtain ⟨hA, hB⟩ := IntOp.andi_eq_one.1 (show IntOp.andi _ _ = 1#1 from hAB)
  obtain ⟨hlow, hhigh⟩ := IntOp.andi_eq_one.1 (show IntOp.andi _ _ = 1#1 from hA)
  obtain ⟨he1, hW1⟩ := IntOp.andi_eq_one.1 (show IntOp.andi _ _ = 1#1 from hB)
  obtain ⟨hw, hb⟩ := IntOp.andi_eq_one.1 (show IntOp.andi _ _ = 1#1 from hC)
  obtain ⟨he2, hW2⟩ := IntOp.andi_eq_one.1 (show IntOp.andi _ _ = 1#1 from hD)
  refine ⟨fun p => ?_, real_of_scalar e1 _ _ _ he1, real_of_all W1 _ _ _ _ hW1,
    real_of_all w _ _ _ _ hw, real_of_all b _ _ _ _ hb, real_of_scalar e2 _ _ _ he2, real_of_all W2 _ _ _ _ hW2⟩
  have l := Host.reduce_andi_all _ _ _ _ ix0 hlow (ix1 p)
  have u := Host.reduce_andi_all _ _ _ _ ix0 hhigh (ix1 p)
  exact toNat_lt l u

end Cert.Domain

end
-- ==== Proof.Results.lean ====
/- The two programs leave the same result: at every node both hold the logistic function of the same number. -/
module

public import proofs.«01_k».proof.Defs
public import proofs.«01_k».proof.Proof.KernelValue
public import proofs.«01_k».proof.Proof.RefValue
public import proofs.«01_k».proof.Proof.Equation
public import proofs.«01_k».proof.Proof.Domain
public import Idealize.ShloMosaic.Lib.Quiescent
public import Idealize.ShloMosaic.Lib.Claim

@[expose] public section

set_option maxRecDepth 16384

noncomputable section

namespace Cert.Results

open Idealize.ShloMosaic Idealize.ShloMosaic.TcCoe Idealize.SL.Sem Cert.Domain

/-- From memories that agree on the arguments, the reference's result is the kernel's. -/
theorem agree (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ)
    (hpre : Pre_KernelIdeal_in_domain (hPre_in_domain := Pre_in_domain.Gen.facts) m) (c : Dev KernelIdeal.nD)
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2))
    (h3 : m' ((c.tc : Thread ReferenceIdeal.nD ReferenceIdeal.τ).loc ReferenceIdeal.main_arg3) = m ((c.tc : Thread KernelIdeal.nD KernelIdeal.τ).loc KernelIdeal.main_arg3))
    (h4 : m' ((c.tc : Thread ReferenceIdeal.nD ReferenceIdeal.τ).loc ReferenceIdeal.main_arg4) = m ((c.tc : Thread KernelIdeal.nD KernelIdeal.τ).loc KernelIdeal.main_arg4))
    (h5 : m' ((c.tc : Thread ReferenceIdeal.nD ReferenceIdeal.τ).loc ReferenceIdeal.main_arg5) = m ((c.tc : Thread KernelIdeal.nD KernelIdeal.τ).loc KernelIdeal.main_arg5))
    (h6 : m' ((c.tc : Thread ReferenceIdeal.nD ReferenceIdeal.τ).loc ReferenceIdeal.main_arg6) = m ((c.tc : Thread KernelIdeal.nD KernelIdeal.τ).loc KernelIdeal.main_arg6))
    (h7 : m' ((c.tc : Thread ReferenceIdeal.nD ReferenceIdeal.τ).loc ReferenceIdeal.main_arg7) = m ((c.tc : Thread KernelIdeal.nD KernelIdeal.τ).loc KernelIdeal.main_arg7))
    (h8 : m' ((c.tc : Thread ReferenceIdeal.nD ReferenceIdeal.τ).loc ReferenceIdeal.main_arg8) = m ((c.tc : Thread KernelIdeal.nD KernelIdeal.τ).loc KernelIdeal.main_arg8))
    (h9 : m' ((c.tc : Thread ReferenceIdeal.nD ReferenceIdeal.τ).loc ReferenceIdeal.main_arg9) = m ((c.tc : Thread KernelIdeal.nD KernelIdeal.τ).loc KernelIdeal.main_arg9))
    (h10 : m' ((c.tc : Thread ReferenceIdeal.nD ReferenceIdeal.τ).loc ReferenceIdeal.main_arg10) = m ((c.tc : Thread KernelIdeal.nD KernelIdeal.τ).loc KernelIdeal.main_arg10))
    (h11 : m' ((c.tc : Thread ReferenceIdeal.nD ReferenceIdeal.τ).loc ReferenceIdeal.main_arg11) = m ((c.tc : Thread KernelIdeal.nD KernelIdeal.τ).loc KernelIdeal.main_arg11))
    (h12 : m' ((c.tc : Thread ReferenceIdeal.nD ReferenceIdeal.τ).loc ReferenceIdeal.main_arg12) = m ((c.tc : Thread KernelIdeal.nD KernelIdeal.τ).loc KernelIdeal.main_arg12))
    (h13 : m' ((c.tc : Thread ReferenceIdeal.nD ReferenceIdeal.τ).loc ReferenceIdeal.main_arg13) = m ((c.tc : Thread KernelIdeal.nD KernelIdeal.τ).loc KernelIdeal.main_arg13))
    (h14 : m' ((c.tc : Thread ReferenceIdeal.nD ReferenceIdeal.τ).loc ReferenceIdeal.main_arg14) = m ((c.tc : Thread KernelIdeal.nD KernelIdeal.τ).loc KernelIdeal.main_arg14))
    (h15 : m' ((c.tc : Thread ReferenceIdeal.nD ReferenceIdeal.τ).loc ReferenceIdeal.main_arg15) = m ((c.tc : Thread KernelIdeal.nD KernelIdeal.τ).loc KernelIdeal.main_arg15))
    (h16 : m' ((c.tc : Thread ReferenceIdeal.nD ReferenceIdeal.τ).loc ReferenceIdeal.main_arg16) = m ((c.tc : Thread KernelIdeal.nD KernelIdeal.τ).loc KernelIdeal.main_arg16)) :
    ReferenceIdeal.Value.res_main_v108 m' c
      = (KernelIdeal.Gen.dats m 0 c).arrAt 1 KernelIdeal.cfg0.N := by
  obtain ⟨hg, he1, hW1, hw, hb, he2, hW2⟩ := decode (hpre c)
  funext y
  refine (congrFun (RefValue.result m' c) y).trans ?_
  rw [h0, h1, h2, h3, h4, h5, h6, h7, h8, h9, h10, h11, h12, h13, h14, h15, h16]
  refine (Equation.sigmoid_apply _ y).trans ?_
  refine Eq.trans ?_ (KernelValue.result m c _ (KernelLogits.entry m c) y).symm
  rw [Equation.logits _ _ _ _ _ _ _ _ _ _ _ _ _ _ _ _ _ hg he1 hW1 hw hb he2 hW2]

/-- The reference's frame: its arguments end unchanged, and it has no semaphore whose counter could be left raised. -/
theorem reference_frame (m : (ℓ : Loc ReferenceIdeal.nD ReferenceIdeal.τ ReferenceIdeal.sig) → Buf (Elt Ideal) ℓ)
    (g : Dev ReferenceIdeal.nD → PrngReg) :
    θ_run (ReferenceIdeal.defs (F := Ideal)) (onTc (τ := ReferenceIdeal.τ) (ReferenceIdeal.main (F := Ideal)))
      ⟨m, fun _ => 0, g⟩ (fun r => (∀ c : Dev ReferenceIdeal.nD,
        r.2.mem ((c.tc : Thread ReferenceIdeal.nD ReferenceIdeal.τ).loc ReferenceIdeal.main_arg0) = m ((c.tc : Thread ReferenceIdeal.nD ReferenceIdeal.τ).loc ReferenceIdeal.main_arg0)
        ∧ r.2.mem ((c.tc : Thread ReferenceIdeal.nD ReferenceIdeal.τ).loc ReferenceIdeal.main_arg1) = m ((c.tc : Thread ReferenceIdeal.nD ReferenceIdeal.τ).loc ReferenceIdeal.main_arg1)
        ∧ r.2.mem ((c.tc : Thread ReferenceIdeal.nD ReferenceIdeal.τ).loc ReferenceIdeal.main_arg2) = m ((c.tc : Thread ReferenceIdeal.nD ReferenceIdeal.τ).loc ReferenceIdeal.main_arg2)
        ∧ r.2.mem ((c.tc : Thread ReferenceIdeal.nD ReferenceIdeal.τ).loc ReferenceIdeal.main_arg3) = m ((c.tc : Thread ReferenceIdeal.nD ReferenceIdeal.τ).loc ReferenceIdeal.main_arg3)
        ∧ r.2.mem ((c.tc : Thread ReferenceIdeal.nD ReferenceIdeal.τ).loc ReferenceIdeal.main_arg4) = m ((c.tc : Thread ReferenceIdeal.nD ReferenceIdeal.τ).loc ReferenceIdeal.main_arg4)
        ∧ r.2.mem ((c.tc : Thread ReferenceIdeal.nD ReferenceIdeal.τ).loc ReferenceIdeal.main_arg5) = m ((c.tc : Thread ReferenceIdeal.nD ReferenceIdeal.τ).loc ReferenceIdeal.main_arg5)
        ∧ r.2.mem ((c.tc : Thread ReferenceIdeal.nD ReferenceIdeal.τ).loc ReferenceIdeal.main_arg6) = m ((c.tc : Thread ReferenceIdeal.nD ReferenceIdeal.τ).loc ReferenceIdeal.main_arg6)
        ∧ r.2.mem ((c.tc : Thread ReferenceIdeal.nD ReferenceIdeal.τ).loc ReferenceIdeal.main_arg7) = m ((c.tc : Thread ReferenceIdeal.nD ReferenceIdeal.τ).loc ReferenceIdeal.main_arg7)
        ∧ r.2.mem ((c.tc : Thread ReferenceIdeal.nD ReferenceIdeal.τ).loc ReferenceIdeal.main_arg8) = m ((c.tc : Thread ReferenceIdeal.nD ReferenceIdeal.τ).loc ReferenceIdeal.main_arg8)
        ∧ r.2.mem ((c.tc : Thread ReferenceIdeal.nD ReferenceIdeal.τ).loc ReferenceIdeal.main_arg9) = m ((c.tc : Thread ReferenceIdeal.nD ReferenceIdeal.τ).loc ReferenceIdeal.main_arg9)
        ∧ r.2.mem ((c.tc : Thread ReferenceIdeal.nD ReferenceIdeal.τ).loc ReferenceIdeal.main_arg10) = m ((c.tc : Thread ReferenceIdeal.nD ReferenceIdeal.τ).loc ReferenceIdeal.main_arg10)
        ∧ r.2.mem ((c.tc : Thread ReferenceIdeal.nD ReferenceIdeal.τ).loc ReferenceIdeal.main_arg11) = m ((c.tc : Thread ReferenceIdeal.nD ReferenceIdeal.τ).loc ReferenceIdeal.main_arg11)
        ∧ r.2.mem ((c.tc : Thread ReferenceIdeal.nD ReferenceIdeal.τ).loc ReferenceIdeal.main_arg12) = m ((c.tc : Thread ReferenceIdeal.nD ReferenceIdeal.τ).loc ReferenceIdeal.main_arg12)
        ∧ r.2.mem ((c.tc : Thread ReferenceIdeal.nD ReferenceIdeal.τ).loc ReferenceIdeal.main_arg13) = m ((c.tc : Thread ReferenceIdeal.nD ReferenceIdeal.τ).loc ReferenceIdeal.main_arg13)
        ∧ r.2.mem ((c.tc : Thread ReferenceIdeal.nD ReferenceIdeal.τ).loc ReferenceIdeal.main_arg14) = m ((c.tc : Thread ReferenceIdeal.nD ReferenceIdeal.τ).loc ReferenceIdeal.main_arg14)
        ∧ r.2.mem ((c.tc : Thread ReferenceIdeal.nD ReferenceIdeal.τ).loc ReferenceIdeal.main_arg15) = m ((c.tc : Thread ReferenceIdeal.nD ReferenceIdeal.τ).loc ReferenceIdeal.main_arg15)
        ∧ r.2.mem ((c.tc : Thread ReferenceIdeal.nD ReferenceIdeal.τ).loc ReferenceIdeal.main_arg16) = m ((c.tc : Thread ReferenceIdeal.nD ReferenceIdeal.τ).loc ReferenceIdeal.main_arg16))
        ∧ r.2.sem = fun _ => 0) :=
  (θ_run _ _ _).mono (fun r h => ⟨fun c => (h c).2, sem_eq_zero_of_no_sems rfl r.2⟩) (ReferenceIdeal.Value.run m g)

end Cert.Results

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_in_domain
public import proofs.«01_k».proof.Proof.Gen.KernelIdeal.Value
public import proofs.«01_k».proof.Proof.Gen.ReferenceIdeal.Run
public import proofs.«01_k».proof.Proof.Results
public import Idealize.ShloMosaic.Adequacy
public import Idealize.ShloMosaic.Init

@[expose] public section

noncomputable section

namespace Cert.Proof

open Idealize.ShloMosaic Idealize.SL.Sem

/-- The kernel and the reference, run from the same arguments in the domain, leave the same result. -/
theorem algebraic : Cert.algebraic_KernelIdeal_ReferenceIdeal_pre_in_domain
    (hKernelIdeal := Cert.KernelIdeal.Gen.facts) (hReferenceIdeal := Cert.ReferenceIdeal.Gen.facts)
    (hPre_in_domain := Cert.Pre_in_domain.Gen.facts) := by
  intro m g m' g' hpre hargs
  refine ⟨fun c => (Cert.KernelIdeal.Gen.dats m 0 c).arrAt 1 Cert.KernelIdeal.cfg0.N,
    Cert.KernelIdeal.Value.run_blocks m g, ?_⟩
  refine (θ_run _ _ _).mono (fun r h c => ⟨(h c).1.trans ?_, (h c).2⟩) (Cert.ReferenceIdeal.Value.run m' g')
  obtain ⟨h0, h1, h2, h3, h4, h5, h6, h7, h8, h9, h10, h11, h12, h13, h14, h15, h16⟩ := hargs c
  exact Cert.Results.agree m m' hpre c h0 h1 h2 h3 h4 h5 h6 h7 h8 h9 h10 h11 h12 h13 h14 h15 h16

/-- Every claim: the frames, the preservation and the equality of the results. -/
theorem claim : Cert.Claim :=
  ⟨Cert.Kernel.Gen.facts, Cert.KernelIdeal.Gen.facts, Cert.ReferenceIdeal.Gen.facts, Cert.Pre_in_domain.Gen.facts,
    fun m g _ => Cert.Kernel.Gen.frame m g,
    fun m g _ => Cert.KernelIdeal.Gen.frame m g,
    fun m g _ => Cert.KernelIdeal.Gen.frame m g,
    fun m g _ => Cert.Results.reference_frame m g,
    fun m g _ => Cert.Results.reference_frame m g,
    trivial,
    algebraic⟩

end Cert.Proof

end
